-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v155) = v0 c
          ∧ r.2.mem ((c.tc : Thread Cert.ReferenceIdeal.nD Cert.ReferenceIdeal.τ).loc Cert.ReferenceIdeal.main_v156) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_args : Cert.Pre_finite_args.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ preserves_Kernel_KernelIdeal
    ∧ algebraic_KernelIdeal_ReferenceIdeal_pre_finite_args (hKernelIdeal := hKernelIdeal) (hReferenceIdeal := hReferenceIdeal) (hPre_finite_args := hPre_finite_args)
-- ==== Pre_finite_args.lean ====
abbrev S2x4096x4096 : Shape := ⟨3, ![2, 4096, 4096]⟩
abbrev S64x4096 : Shape := ⟨2, ![64, 4096]⟩
abbrev S64 : Shape := ⟨1, ![64]⟩
abbrev S_ : Shape := ⟨0, ![]⟩

class Facts : Prop where
  bcast_S_S2x4096x4096 : S_.BroadcastsInDim S2x4096x4096 (![] : Fin 0 → Fin S2x4096x4096.rank)
  reducesTo_S2x4096x4096_S_d0_1_2 : S2x4096x4096.ReducesTo [0, 1, 2] S_
  h_S_ : 0 < S_.numel
  bcast_S_S64x4096 : S_.BroadcastsInDim S64x4096 (![] : Fin 0 → Fin S64x4096.rank)
  reducesTo_S64x4096_S_d0_1 : S64x4096.ReducesTo [0, 1] S_
  bcast_S_S64 : S_.BroadcastsInDim S64 (![] : Fin 0 → Fin S64.rank)
  reducesTo_S64_S_d0 : S64.ReducesTo [0] S_

variable [Facts]

def fn {F : FTy → Type} [FloatOps F] (main_arg0 : FVec F S2x4096x4096 .f32) (main_arg1 : FVec F S64x4096 .f32) (main_arg2 : FVec F S64 .f32) : IVec S_ 1 :=
  let main_v0 : FVec F S2x4096x4096 .f32 := Host.absf main_arg0
  let main_cst : FVec F S_ .f32 := constant S_ .f32 0x7F800000#32
  let main_v1 : FVec F S2x4096x4096 .f32 := broadcastInDim S2x4096x4096 ![] bcast_S_S2x4096x4096 main_cst
  let main_v2 : IVec S2x4096x4096 1 := cmpf .olt main_v0 main_v1
  let main_c : IVec S_ 1 := constantI S_ 1 1#1
  let main_v3 : IVec S_ 1 := (fun x v => Host.reduce IntOp.andi x v reducesTo_S2x4096x4096_S_d0_1_2 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  main_v13
-- ==== Kernel.lean ====
abbrev S2x4096x4096 : Shape := ⟨3, ![2, 4096, 4096]⟩
abbrev S64x4096 : Shape := ⟨2, ![64, 4096]⟩
abbrev S64 : Shape := ⟨1, ![64]⟩
abbrev S8192x4096 : Shape := ⟨2, ![8192, 4096]⟩
abbrev S4096x64 : Shape := ⟨2, ![4096, 64]⟩
abbrev S1x64 : Shape := ⟨2, ![1, 64]⟩
abbrev S8192x64 : Shape := ⟨2, ![8192, 64]⟩
abbrev S512x4096 : Shape := ⟨2, ![512, 4096]⟩
abbrev S512x64 : Shape := ⟨2, ![512, 64]⟩
abbrev S8x64 : Shape := ⟨2, ![8, 64]⟩
abbrev S512 : Shape := ⟨1, ![512]⟩
abbrev S512x1 : Shape := ⟨2, ![512, 1]⟩
abbrev S511x64 : Shape := ⟨2, ![511, 64]⟩
abbrev S2x64 : Shape := ⟨2, ![2, 64]⟩
abbrev S510x64 : Shape := ⟨2, ![510, 64]⟩
abbrev S4x64 : Shape := ⟨2, ![4, 64]⟩
abbrev S508x64 : Shape := ⟨2, ![508, 64]⟩
abbrev S504x64 : Shape := ⟨2, ![504, 64]⟩
abbrev S16x64 : Shape := ⟨2, ![16, 64]⟩
abbrev S496x64 : Shape := ⟨2, ![496, 64]⟩
abbrev S32x64 : Shape := ⟨2, ![32, 64]⟩
abbrev S480x64 : Shape := ⟨2, ![480, 64]⟩
abbrev S64x64 : Shape := ⟨2, ![64, 64]⟩
abbrev S448x64 : Shape := ⟨2, ![448, 64]⟩
abbrev S128x64 : Shape := ⟨2, ![128, 64]⟩
abbrev S384x64 : Shape := ⟨2, ![384, 64]⟩
abbrev S256x64 : Shape := ⟨2, ![256, 64]⟩
abbrev S2x4096x64 : Shape := ⟨3, ![2, 4096, 64]⟩

abbrev nBuf : Space → Nat
  | .hbm => 10
  | .vmem => 9
  | .smem => 0
  | _ => 0

abbrev bufTy : (tb : Table) → Fin (tcTables nBuf tb) → BufTy
  | .hbm, ⟨0, _⟩ => ⟨S2x4096x4096, .f32⟩
  | .hbm, ⟨1, _⟩ => ⟨S64x4096, .f32⟩
  | .hbm, ⟨2, _⟩ => ⟨S64, .f32⟩
  | .hbm, ⟨3, _⟩ => ⟨S8192x4096, .f32⟩
  | .hbm, ⟨4, _⟩ => ⟨S4096x64, .f32⟩
  | .hbm, ⟨5, _⟩ => ⟨S1x64, .f32⟩
  | .hbm, ⟨6, _⟩ => ⟨S8192x64, .f32⟩
  | .hbm, ⟨7, _⟩ => ⟨S8192x64, .f32⟩
  | .hbm, ⟨8, _⟩ => ⟨S2x4096x64, .f32⟩
  | .hbm, ⟨9, _⟩ => ⟨S2x4096x64, .f32⟩
  | .local _ .vmem, ⟨0, _⟩ => ⟨S512x4096, .f32⟩
  | .local _ .vmem, ⟨1, _⟩ => ⟨S512x4096, .f32⟩
  | .local _ .vmem, ⟨2, _⟩ => ⟨S4096x64, .f32⟩
  | .local _ .vmem, ⟨3, _⟩ => ⟨S1x64, .f32⟩
  | .local _ .vmem, ⟨4, _⟩ => ⟨S512x64, .f32⟩
  | .local _ .vmem, ⟨5, _⟩ => ⟨S512x64, .f32⟩
  | .local _ .vmem, ⟨6, _⟩ => ⟨S512x64, .f32⟩
  | .local _ .vmem, ⟨7, _⟩ => ⟨S512x64, .f32⟩
  | .local _ .vmem, ⟨8, _⟩ => ⟨S8x64, .f32⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3_0 : Ref sig .tc := ⟨.hbm, 6, rfl⟩
abbrev main_v3_1 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S2x4096x4096 : Shape := ⟨3, ![2, 4096, 4096]⟩
abbrev S64x4096 : Shape := ⟨2, ![64, 4096]⟩
abbrev S64 : Shape := ⟨1, ![64]⟩
abbrev S2x4096x64 : Shape := ⟨3, ![2, 4096, 64]⟩
abbrev S1x1x64 : Shape := ⟨3, ![1, 1, 64]⟩
abbrev S_ : Shape := ⟨0, ![]⟩
abbrev S2x4096 : Shape := ⟨2, ![2, 4096]⟩
abbrev S2x4096x1 : Shape := ⟨3, ![2, 4096, 1]⟩
abbrev S2x4096x8 : Shape := ⟨3, ![2, 4096, 8]⟩
abbrev S8192x8 : Shape := ⟨2, ![8192, 8]⟩
abbrev S8192x64 : Shape := ⟨2, ![8192, 64]⟩
abbrev S8192x1 : Shape := ⟨2, ![8192, 1]⟩
abbrev S8192 : Shape := ⟨1, ![8192]⟩
abbrev S1x64 : Shape := ⟨2, ![1, 64]⟩

abbrev nBuf : Space → Nat
  | .hbm => 244
  | .vmem => 0
  | .smem => 0
  | _ => 0

abbrev hbmTy0_0 (i : Nat) : BufTy := match i % 128 with
  | 0 => ⟨S2x4096x4096, .f32⟩
  | 1 => ⟨S64x4096, .f32⟩
  | 2 => ⟨S64, .f32⟩
  | 3 => ⟨S2x4096x64, .f32⟩
  | 4 => ⟨S1x1x64, .f32⟩
  | 5 => ⟨S2x4096x64, .f32⟩
  | 6 => ⟨S2x4096x64, .f32⟩
  | 7 => ⟨S_, .f32⟩
  | 8 => ⟨S2x4096, .f32⟩
  | 9 => ⟨S_, .f32⟩
  | 10 => ⟨S2x4096, .f32⟩
  | 11 => ⟨S2x4096, .f32⟩
  | 12 => ⟨S2x4096x1, .f32⟩
  | 13 => ⟨S2x4096x64, .f32⟩
  | 14 => ⟨S2x4096x64, .f32⟩
  | 15 => ⟨S2x4096x64, .f32⟩
  | 16 => ⟨S_, .f32⟩
  | 17 => ⟨S2x4096, .f32⟩
  | 18 => ⟨S2x4096x1, .f32⟩
  | 19 => ⟨S2x4096x64, .f32⟩
  | 20 => ⟨S2x4096x64, .f32⟩
  | 21 => ⟨S2x4096x8, .f32⟩
  | 22 => ⟨S2x4096x8, .i32⟩
  | 23 => ⟨S_, .f32⟩
  | 24 => ⟨S2x4096, .f32⟩
  | 25 => ⟨S2x4096x1, .f32⟩
  | 26 => ⟨S_, .f32⟩
  | 27 => ⟨S2x4096x1, .f32⟩
  | 28 => ⟨S2x4096x1, .f32⟩
  | 29 => ⟨S2x4096x8, .f32⟩
  | 30 => ⟨S2x4096x8, .f32⟩
  | 31 => ⟨S8192x8, .i32⟩
  | 32 => ⟨S8192x8, .f32⟩
  | 33 => ⟨S_, .f32⟩
  | 34 => ⟨S8192x64, .f32⟩
  | 35 => ⟨S_, .f32⟩
  | 36 => ⟨S8192x64, .f32⟩
  | 37 => ⟨S8192x1, .i32⟩
  | 38 => ⟨S8192, .i32⟩
  | 39 => ⟨S8192x1, .i32⟩
  | 40 => ⟨S1x64, .i32⟩
  | 41 => ⟨S8192x64, .i32⟩
  | 42 => ⟨S8192x64, .i32⟩
  | 43 => ⟨S8192x64, .i1⟩
  | 44 => ⟨S8192x64, .f32⟩
  | 45 => ⟨S_, .f32⟩
  | 46 => ⟨S_, .f32⟩
  | 47 => ⟨S8192x64, .f32⟩
  | 48 => ⟨S_, .f32⟩
  | 49 => ⟨S8192x64, .f32⟩
  | 50 => ⟨S8192x64, .f32⟩
  | 51 => ⟨S_, .f32⟩
  | 52 => ⟨S8192x64, .f32⟩
  | 53 => ⟨S8192x64, .i1⟩
  | 54 => ⟨S8192x64, .f32⟩
  | 55 => ⟨S8192x64, .f32⟩
  | 56 => ⟨S8192x1, .f32⟩
  | 57 => ⟨S8192x64, .f32⟩
  | 58 => ⟨S8192x64, .f32⟩
  | 59 => ⟨S8192x64, .f32⟩
  | 60 => ⟨S8192x64, .f32⟩
  | 61 => ⟨S8192x1, .i32⟩
  | 62 => ⟨S8192, .i32⟩
  | 63 => ⟨S8192x1, .i32⟩
  | 64 => ⟨S1x64, .i32⟩
  | 65 => ⟨S8192x64, .i32⟩
  | 66 => ⟨S8192x64, .i32⟩
  | 67 => ⟨S8192x64, .i1⟩
  | 68 => ⟨S8192x64, .f32⟩
  | 69 => ⟨S_, .f32⟩
  | 70 => ⟨S_, .f32⟩
  | 71 => ⟨S8192x64, .f32⟩
  | 72 => ⟨S_, .f32⟩
  | 73 => ⟨S8192x64, .f32⟩
  | 74 => ⟨S8192x64, .f32⟩
  | 75 => ⟨S_, .f32⟩
  | 76 => ⟨S8192x64, .f32⟩
  | 77 => ⟨S8192x64, .i1⟩
  | 78 => ⟨S8192x64, .f32⟩
  | 79 => ⟨S8192x64, .f32⟩
  | 80 => ⟨S8192x1, .f32⟩
  | 81 => ⟨S8192x64, .f32⟩
  | 82 => ⟨S8192x64, .f32⟩
  | 83 => ⟨S8192x64, .f32⟩
  | 84 => ⟨S8192x64, .f32⟩
  | 85 => ⟨S8192x1, .i32⟩
  | 86 => ⟨S8192, .i32⟩
  | 87 => ⟨S8192x1, .i32⟩
  | 88 => ⟨S1x64, .i32⟩
  | 89 => ⟨S8192x64, .i32⟩
  | 90 => ⟨S8192x64, .i32⟩
  | 91 => ⟨S8192x64, .i1⟩
  | 92 => ⟨S8192x64, .f32⟩
  | 93 => ⟨S_, .f32⟩
  | 94 => ⟨S_, .f32⟩
  | 95 => ⟨S8192x64, .f32⟩
  | 96 => ⟨S_, .f32⟩
  | 97 => ⟨S8192x64, .f32⟩
  | 98 => ⟨S8192x64, .f32⟩
  | 99 => ⟨S_, .f32⟩
  | 100 => ⟨S8192x64, .f32⟩
  | 101 => ⟨S8192x64, .i1⟩
  | 102 => ⟨S8192x64, .f32⟩
  | 103 => ⟨S8192x64, .f32⟩
  | 104 => ⟨S8192x1, .f32⟩
  | 105 => ⟨S8192x64, .f32⟩
  | 106 => ⟨S8192x64, .f32⟩
  | 107 => ⟨S8192x64, .f32⟩
  | 108 => ⟨S8192x64, .f32⟩
  | 109 => ⟨S8192x1, .i32⟩
  | 110 => ⟨S8192, .i32⟩
  | 111 => ⟨S8192x1, .i32⟩
  | 112 => ⟨S1x64, .i32⟩
  | 113 => ⟨S8192x64, .i32⟩
  | 114 => ⟨S8192x64, .i32⟩
  | 115 => ⟨S8192x64, .i1⟩
  | 116 => ⟨S8192x64, .f32⟩
  | 117 => ⟨S_, .f32⟩
  | 118 => ⟨S_, .f32⟩
  | 119 => ⟨S8192x64, .f32⟩
  | 120 => ⟨S_, .f32⟩
  | 121 => ⟨S8192x64, .f32⟩
  | 122 => ⟨S8192x64, .f32⟩
  | 123 => ⟨S_, .f32⟩
  | 124 => ⟨S8192x64, .f32⟩
  | 125 => ⟨S8192x64, .i1⟩
  | 126 => ⟨S8192x64, .f32⟩
  | 127 => ⟨S8192x64, .f32⟩
  | _ => ⟨S2x4096x4096, .f32⟩

abbrev hbmTy0_1 (i : Nat) : BufTy := match i % 128 with
  | 0 => ⟨S8192x1, .f32⟩
  | 1 => ⟨S8192x64, .f32⟩
  | 2 => ⟨S8192x64, .f32⟩
  | 3 => ⟨S8192x64, .f32⟩
  | 4 => ⟨S8192x64, .f32⟩
  | 5 => ⟨S8192x1, .i32⟩
  | 6 => ⟨S8192, .i32⟩
  | 7 => ⟨S8192x1, .i32⟩
  | 8 => ⟨S1x64, .i32⟩
  | 9 => ⟨S8192x64, .i32⟩
  | 10 => ⟨S8192x64, .i32⟩
  | 11 => ⟨S8192x64, .i1⟩
  | 12 => ⟨S8192x64, .f32⟩
  | 13 => ⟨S_, .f32⟩
  | 14 => ⟨S_, .f32⟩
  | 15 => ⟨S8192x64, .f32⟩
  | 16 => ⟨S_, .f32⟩
  | 17 => ⟨S8192x64, .f32⟩
  | 18 => ⟨S8192x64, .f32⟩
  | 19 => ⟨S_, .f32⟩
  | 20 => ⟨S8192x64, .f32⟩
  | 21 => ⟨S8192x64, .i1⟩
  | 22 => ⟨S8192x64, .f32⟩
  | 23 => ⟨S8192x64, .f32⟩
  | 24 => ⟨S8192x1, .f32⟩
  | 25 => ⟨S8192x64, .f32⟩
  | 26 => ⟨S8192x64, .f32⟩
  | 27 => ⟨S8192x64, .f32⟩
  | 28 => ⟨S8192x64, .f32⟩
  | 29 => ⟨S8192x1, .i32⟩
  | 30 => ⟨S8192, .i32⟩
  | 31 => ⟨S8192x1, .i32⟩
  | 32 => ⟨S1x64, .i32⟩
  | 33 => ⟨S8192x64, .i32⟩
  | 34 => ⟨S8192x64, .i32⟩
  | 35 => ⟨S8192x64, .i1⟩
  | 36 => ⟨S8192x64, .f32⟩
  | 37 => ⟨S_, .f32⟩
  | 38 => ⟨S_, .f32⟩
  | 39 => ⟨S8192x64, .f32⟩
  | 40 => ⟨S_, .f32⟩
  | 41 => ⟨S8192x64, .f32⟩
  | 42 => ⟨S8192x64, .f32⟩
  | 43 => ⟨S_, .f32⟩
  | 44 => ⟨S8192x64, .f32⟩
  | 45 => ⟨S8192x64, .i1⟩
  | 46 => ⟨S8192x64, .f32⟩
  | 47 => ⟨S8192x64, .f32⟩
  | 48 => ⟨S8192x1, .f32⟩
  | 49 => ⟨S8192x64, .f32⟩
  | 50 => ⟨S8192x64, .f32⟩
  | 51 => ⟨S8192x64, .f32⟩
  | 52 => ⟨S8192x64, .f32⟩
  | 53 => ⟨S8192x1, .i32⟩
  | 54 => ⟨S8192, .i32⟩
  | 55 => ⟨S8192x1, .i32⟩
  | 56 => ⟨S1x64, .i32⟩
  | 57 => ⟨S8192x64, .i32⟩
  | 58 => ⟨S8192x64, .i32⟩
  | 59 => ⟨S8192x64, .i1⟩
  | 60 => ⟨S8192x64, .f32⟩
  | 61 => ⟨S_, .f32⟩
  | 62 => ⟨S_, .f32⟩
  | 63 => ⟨S8192x64, .f32⟩
  | 64 => ⟨S_, .f32⟩
  | 65 => ⟨S8192x64, .f32⟩
  | 66 => ⟨S8192x64, .f32⟩
  | 67 => ⟨S_, .f32⟩
  | 68 => ⟨S8192x64, .f32⟩
  | 69 => ⟨S8192x64, .i1⟩
  | 70 => ⟨S8192x64, .f32⟩
  | 71 => ⟨S8192x64, .f32⟩
  | 72 => ⟨S8192x1, .f32⟩
  | 73 => ⟨S8192x64, .f32⟩
  | 74 => ⟨S8192x64, .f32⟩
  | 75 => ⟨S8192x64, .f32⟩
  | 76 => ⟨S8192x64, .f32⟩
  | 77 => ⟨S8192x1, .i32⟩
  | 78 => ⟨S8192, .i32⟩
  | 79 => ⟨S8192x1, .i32⟩
  | 80 => ⟨S1x64, .i32⟩
  | 81 => ⟨S8192x64, .i32⟩
  | 82 => ⟨S8192x64, .i32⟩
  | 83 => ⟨S8192x64, .i1⟩
  | 84 => ⟨S8192x64, .f32⟩
  | 85 => ⟨S_, .f32⟩
  | 86 => ⟨S_, .f32⟩
  | 87 => ⟨S8192x64, .f32⟩
  | 88 => ⟨S_, .f32⟩
  | 89 => ⟨S8192x64, .f32⟩
  | 90 => ⟨S8192x64, .f32⟩
  | 91 => ⟨S_, .f32⟩
  | 92 => ⟨S8192x64, .f32⟩
  | 93 => ⟨S8192x64, .i1⟩
  | 94 => ⟨S8192x64, .f32⟩
  | 95 => ⟨S8192x64, .f32⟩
  | 96 => ⟨S8192x1, .f32⟩
  | 97 => ⟨S8192x64, .f32⟩
  | 98 => ⟨S8192x64, .f32⟩
  | 99 => ⟨S8192x64, .f32⟩
  | 100 => ⟨S8192x64, .f32⟩
  | 101 => ⟨S_, .f32⟩
  | 102 => ⟨S8192x64, .f32⟩
  | 103 => ⟨S8192x64, .i1⟩
  | 104 => ⟨S8192x64, .f32⟩
  | 105 => ⟨S8192x64, .f32⟩
  | 106 => ⟨S_, .f32⟩
  | 107 => ⟨S8192, .f32⟩
  | 108 => ⟨S8192x1, .f32⟩
  | 109 => ⟨S_, .f32⟩
  | 110 => ⟨S8192x1, .f32⟩
  | 111 => ⟨S8192x1, .f32⟩
  | 112 => ⟨S8192x64, .f32⟩
  | 113 => ⟨S8192x64, .f32⟩
  | 114 => ⟨S2x4096x64, .f32⟩
  | 115 => ⟨S2x4096x64, .f32⟩
  | _ => ⟨S2x4096x4096, .f32⟩

abbrev hbmTy (i : Nat) : BufTy := match i / 128 with
  | 0 => hbmTy0_0 i
  | 1 => hbmTy0_1 i
  | _ => ⟨S2x4096x4096, .f32⟩

abbrev bufTy : (tb : Table) → Fin (tcTables nBuf tb) → BufTy
  | .hbm, ⟨i, _⟩ => hbmTy i
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_values : Ref sig .tc := ⟨.hbm, 21, rfl⟩
abbrev main_indices : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v27 : Ref sig .tc := ⟨.hbm, 44, rfl⟩
abbrev main_call1_call0_cst : Ref sig .tc := ⟨.hbm, 45, rfl⟩
abbrev main_call1_call0_v0 : Ref sig .tc := ⟨.hbm, 46, rfl⟩
abbrev main_v28 : Ref sig .tc := ⟨.hbm, 47, rfl⟩
abbrev main_cst_6 : Ref sig .tc := ⟨.hbm, 48, rfl⟩
abbrev main_v29 : Ref sig .tc := ⟨.hbm, 49, rfl⟩
abbrev main_v30 : Ref sig .tc := ⟨.hbm, 50, rfl⟩
abbrev main_cst_7 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_call2_v0 : Ref sig .tc := ⟨.hbm, 63, rfl⟩
abbrev main_call2_v1 : Ref sig .tc := ⟨.hbm, 64, rfl⟩
abbrev main_call2_v2 : Ref sig .tc := ⟨.hbm, 65, rfl⟩
abbrev main_call2_v3 : Ref sig .tc := ⟨.hbm, 66, rfl⟩
abbrev main_call2_v4 : Ref sig .tc := ⟨.hbm, 67, rfl⟩
abbrev main_v42 : Ref sig .tc := ⟨.hbm, 68, rfl⟩
abbrev main_call3_call0_cst : Ref sig .tc := ⟨.hbm, 69, rfl⟩
abbrev main_call3_call0_v0 : Ref sig .tc := ⟨.hbm, 70, rfl⟩
abbrev main_v43 : Ref sig .tc := ⟨.hbm, 71, rfl⟩
abbrev main_cst_8 : Ref sig .tc := ⟨.hbm, 72, rfl⟩
abbrev main_v44 : Ref sig .tc := ⟨.hbm, 73, rfl⟩
abbrev main_v45 : Ref sig .tc := ⟨.hbm, 74, rfl⟩
abbrev main_cst_9 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_call4_v0 : Ref sig .tc := ⟨.hbm, 87, rfl⟩
abbrev main_call4_v1 : Ref sig .tc := ⟨.hbm, 88, rfl⟩
abbrev main_call4_v2 : Ref sig .tc := ⟨.hbm, 89, rfl⟩
abbrev main_call4_v3 : Ref sig .tc := ⟨.hbm, 90, rfl⟩
abbrev main_call4_v4 : Ref sig .tc := ⟨.hbm, 91, rfl⟩
abbrev main_v57 : Ref sig .tc := ⟨.hbm, 92, rfl⟩
abbrev main_call5_call0_cst : Ref sig .tc := ⟨.hbm, 93, rfl⟩
abbrev main_call5_call0_v0 : Ref sig .tc := ⟨.hbm, 94, rfl⟩
abbrev main_v58 : Ref sig .tc := ⟨.hbm, 95, rfl⟩
abbrev main_cst_10 : Ref sig .tc := ⟨.hbm, 96, rfl⟩
abbrev main_v59 : Ref sig .tc := ⟨.hbm, 97, rfl⟩
abbrev main_v60 : Ref sig .tc := ⟨.hbm, 98, rfl⟩
abbrev main_cst_11 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_v64 : Ref sig .tc := ⟨.hbm, 103, rfl⟩
abbrev main_v65 : Ref sig .tc := ⟨.hbm, 104, rfl⟩
abbrev main_v66 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_v70 : Ref sig .tc := ⟨.hbm, 109, rfl⟩
abbrev main_v71 : Ref sig .tc := ⟨.hbm, 110, rfl⟩
abbrev main_call6_v0 : Ref sig .tc := ⟨.hbm, 111, rfl⟩
abbrev main_call6_v1 : Ref sig .tc := ⟨.hbm, 112, rfl⟩
abbrev main_call6_v2 : Ref sig .tc := ⟨.hbm, 113, rfl⟩
abbrev main_call6_v3 : Ref sig .tc := ⟨.hbm, 114, rfl⟩
abbrev main_call6_v4 : Ref sig .tc := ⟨.hbm, 115, rfl⟩
abbrev main_v72 : Ref sig .tc := ⟨.hbm, 116, rfl⟩
abbrev main_call7_call0_cst : Ref sig .tc := ⟨.hbm, 117, rfl⟩
abbrev main_call7_call0_v0 : Ref sig .tc := ⟨.hbm, 118, rfl⟩
abbrev main_v73 : Ref sig .tc := ⟨.hbm, 119, rfl⟩
abbrev main_cst_12 : Ref sig .tc := ⟨.hbm, 120, rfl⟩
abbrev main_v74 : Ref sig .tc := ⟨.hbm, 121, rfl⟩
abbrev main_v75 : Ref sig .tc := ⟨.hbm, 122, rfl⟩
abbrev main_cst_13 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_v86 : Ref sig .tc := ⟨.hbm, 134, rfl⟩
abbrev main_call8_v0 : Ref sig .tc := ⟨.hbm, 135, rfl⟩
abbrev main_call8_v1 : Ref sig .tc := ⟨.hbm, 136, rfl⟩
abbrev main_call8_v2 : Ref sig .tc := ⟨.hbm, 137, rfl⟩
abbrev main_call8_v3 : Ref sig .tc := ⟨.hbm, 138, rfl⟩
abbrev main_call8_v4 : Ref sig .tc := ⟨.hbm, 139, rfl⟩
abbrev main_v87 : Ref sig .tc := ⟨.hbm, 140, rfl⟩
abbrev main_call9_call0_cst : Ref sig .tc := ⟨.hbm, 141, rfl⟩
abbrev main_call9_call0_v0 : Ref sig .tc := ⟨.hbm, 142, rfl⟩
abbrev main_v88 : Ref sig .tc := ⟨.hbm, 143, rfl⟩
abbrev main_cst_14 : Ref sig .tc := ⟨.hbm, 144, rfl⟩
abbrev main_v89 : Ref sig .tc := ⟨.hbm, 145, rfl⟩
abbrev main_v90 : Ref sig .tc := ⟨.hbm, 146, rfl⟩
abbrev main_cst_15 : Ref sig .tc := ⟨.hbm, 147, rfl⟩
abbrev main_v91 : Ref sig .tc := ⟨.hbm, 148, rfl⟩
abbrev main_v92 : Ref sig .tc := ⟨.hbm, 149, rfl⟩
abbrev main_v93 : Ref sig .tc := ⟨.hbm, 150, rfl⟩
abbrev main_v94 : Ref sig .tc := ⟨.hbm, 151, rfl⟩
abbrev main_v95 : Ref sig .tc := ⟨.hbm, 152, rfl⟩
abbrev main_v96 : Ref sig .tc := ⟨.hbm, 153, rfl⟩
abbrev main_v97 : Ref sig .tc := ⟨.hbm, 154, rfl⟩
abbrev main_v98 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_call10_v0 : Ref sig .tc := ⟨.hbm, 159, rfl⟩
abbrev main_call10_v1 : Ref sig .tc := ⟨.hbm, 160, rfl⟩
abbrev main_call10_v2 : Ref sig .tc := ⟨.hbm, 161, rfl⟩
abbrev main_call10_v3 : Ref sig .tc := ⟨.hbm, 162, rfl⟩
abbrev main_call10_v4 : Ref sig .tc := ⟨.hbm, 163, rfl⟩
abbrev main_v102 : Ref sig .tc := ⟨.hbm, 164, rfl⟩
abbrev main_call11_call0_cst : Ref sig .tc := ⟨.hbm, 165, rfl⟩
abbrev main_call11_call0_v0 : Ref sig .tc := ⟨.hbm, 166, rfl⟩
abbrev main_v103 : Ref sig .tc := ⟨.hbm, 167, rfl⟩
abbrev main_cst_16 : Ref sig .tc := ⟨.hbm, 168, rfl⟩
abbrev main_v104 : Ref sig .tc := ⟨.hbm, 169, rfl⟩
abbrev main_v105 : Ref sig .tc := ⟨.hbm, 170, rfl⟩
abbrev main_cst_17 : Ref sig .tc := ⟨.hbm, 171, rfl⟩
abbrev main_v106 : Ref sig .tc := ⟨.hbm, 172, rfl⟩
abbrev main_v107 : Ref sig .tc := ⟨.hbm, 173, rfl⟩
abbrev main_v108 : Ref sig .tc := ⟨.hbm, 174, rfl⟩
abbrev main_v109 : Ref sig .tc := ⟨.hbm, 175, rfl⟩
abbrev main_v110 : Ref sig .tc := ⟨.hbm, 176, rfl⟩
abbrev main_v111 : Ref sig .tc := ⟨.hbm, 177, rfl⟩
abbrev main_v112 : Ref sig .tc := ⟨.hbm, 178, rfl⟩
abbrev main_v113 : Ref sig .tc := ⟨.hbm, 179, rfl⟩
abbrev main_v114 : Ref sig .tc := ⟨.hbm, 180, rfl⟩
abbrev main_v115 : Ref sig .tc := ⟨.hbm, 181, rfl⟩
abbrev main_v116 : Ref sig .tc := ⟨.hbm, 182, rfl⟩
abbrev main_call12_v0 : Ref sig .tc := ⟨.hbm, 183, rfl⟩
abbrev main_call12_v1 : Ref sig .tc := ⟨.hbm, 184, rfl⟩
abbrev main_call12_v2 : Ref sig .tc := ⟨.hbm, 185, rfl⟩
abbrev main_call12_v3 : Ref sig .tc := ⟨.hbm, 186, rfl⟩
abbrev main_call12_v4 : Ref sig .tc := ⟨.hbm, 187, rfl⟩
abbrev main_v117 : Ref sig .tc := ⟨.hbm, 188, rfl⟩
abbrev main_call13_call0_cst : Ref sig .tc := ⟨.hbm, 189, rfl⟩
abbrev main_call13_call0_v0 : Ref sig .tc := ⟨.hbm, 190, rfl⟩
abbrev main_v118 : Ref sig .tc := ⟨.hbm, 191, rfl⟩
abbrev main_cst_18 : Ref sig .tc := ⟨.hbm, 192, rfl⟩
abbrev main_v119 : Ref sig .tc := ⟨.hbm, 193, rfl⟩
abbrev main_v120 : Ref sig .tc := ⟨.hbm, 194, rfl⟩
abbrev main_cst_19 : Ref sig .tc := ⟨.hbm, 195, rfl⟩
abbrev main_v121 : Ref sig .tc := ⟨.hbm, 196, rfl⟩
abbrev main_v122 : Ref sig .tc := ⟨.hbm, 197, rfl⟩
abbrev main_v123 : Ref sig .tc := ⟨.hbm, 198, rfl⟩
abbrev main_v124 : Ref sig .tc := ⟨.hbm, 199, rfl⟩
abbrev main_v125 : Ref sig .tc := ⟨.hbm, 200, rfl⟩
abbrev main_v126 : Ref sig .tc := ⟨.hbm, 201, rfl⟩
abbrev main_v127 : Ref sig .tc := ⟨.hbm, 202, rfl⟩
abbrev main_v128 : Ref sig .tc := ⟨.hbm, 203, rfl⟩
abbrev main_v129 : Ref sig .tc := ⟨.hbm, 204, rfl⟩
abbrev main_v130 : Ref sig .tc := ⟨.hbm, 205, rfl⟩
abbrev main_v131 : Ref sig .tc := ⟨.hbm, 206, rfl⟩
abbrev main_call14_v0 : Ref sig .tc := ⟨.hbm, 207, rfl⟩
abbrev main_call14_v1 : Ref sig .tc := ⟨.hbm, 208, rfl⟩
abbrev main_call14_v2 : Ref sig .tc := ⟨.hbm, 209, rfl⟩
abbrev main_call14_v3 : Ref sig .tc := ⟨.hbm, 210, rfl⟩
abbrev main_call14_v4 : Ref sig .tc := ⟨.hbm, 211, rfl⟩
abbrev main_v132 : Ref sig .tc := ⟨.hbm, 212, rfl⟩
abbrev main_call15_call0_cst : Ref sig .tc := ⟨.hbm, 213, rfl⟩
abbrev main_call15_call0_v0 : Ref sig .tc := ⟨.hbm, 214, rfl⟩
abbrev main_v133 : Ref sig .tc := ⟨.hbm, 215, rfl⟩
abbrev main_cst_20 : Ref sig .tc := ⟨.hbm, 216, rfl⟩
abbrev main_v134 : Ref sig .tc := ⟨.hbm, 217, rfl⟩
abbrev main_v135 : Ref sig .tc := ⟨.hbm, 218, rfl⟩
abbrev main_cst_21 : Ref sig .tc := ⟨.hbm, 219, rfl⟩
abbrev main_v136 : Ref sig .tc := ⟨.hbm, 220, rfl⟩
abbrev main_v137 : Ref sig .tc := ⟨.hbm, 221, rfl⟩
abbrev main_v138 : Ref sig .tc := ⟨.hbm, 222, rfl⟩
abbrev main_v139 : Ref sig .tc := ⟨.hbm, 223, rfl⟩
abbrev main_v140 : Ref sig .tc := ⟨.hbm, 224, rfl⟩
abbrev main_v141 : Ref sig .tc := ⟨.hbm, 225, rfl⟩
abbrev main_v142 : Ref sig .tc := ⟨.hbm, 226, rfl⟩
abbrev main_v143 : Ref sig .tc := ⟨.hbm, 227, rfl⟩
abbrev main_v144 : Ref sig .tc := ⟨.hbm, 228, rfl⟩
abbrev main_cst_22 : Ref sig .tc := ⟨.hbm, 229, rfl⟩
abbrev main_v145 : Ref sig .tc := ⟨.hbm, 230, rfl⟩
abbrev main_v146 : Ref sig .tc := ⟨.hbm, 231, rfl⟩
abbrev main_v147 : Ref sig .tc := ⟨.hbm, 232, rfl⟩
abbrev main_v148 : Ref sig .tc := ⟨.hbm, 233, rfl⟩
abbrev main_cst_23 : Ref sig .tc := ⟨.hbm, 234, rfl⟩
abbrev main_v149 : Ref sig .tc := ⟨.hbm, 235, rfl⟩
abbrev main_v150 : Ref sig .tc := ⟨.hbm, 236, rfl⟩
abbrev main_cst_24 : Ref sig .tc := ⟨.hbm, 237, rfl⟩
abbrev main_v151 : Ref sig .tc := ⟨.hbm, 238, rfl⟩
abbrev main_v152 : Ref sig .tc := ⟨.hbm, 239, rfl⟩
abbrev main_v153 : Ref sig .tc := ⟨.hbm, 240, rfl⟩
abbrev main_v154 : Ref sig .tc := ⟨.hbm, 241, rfl⟩
abbrev main_v155 : Ref sig .tc := ⟨.hbm, 242, rfl⟩
abbrev main_v156 : Ref sig .tc := ⟨.hbm, 243, rfl⟩

abbrev nD : Nat := 1
abbrev τ : Topo := Topo.v7x

variable {F : FTy → Type} [FloatOps F]
-- ==== Proof.Block.lean ====
/-
  What one grid point of the router kernel computes, as functions of its blocks: the probabilities of its 512 tokens
  (`probV`), one selection round (`topV` the maximum, `hotV` the chosen expert as a one-hot row, `nextV` the rows with
  the chosen entry overwritten), the running count within the block (`cumV`, nine doubling steps), which assignments
  fit the capacity (`keepV`), and the two results and the new counters made from them (`dispV`, `combV`, `bumpV`).
  Each step lemma says that a stored or intermediate value of the printed kernel is one of these functions.
-/
module

public import proofs.«01_k».proof.Proof.Gen.KernelIdeal.Skeleton

@[expose] public section

set_option maxRecDepth 16384

noncomputable section

namespace Cert.Router

open Cert.KernelIdeal Cert.KernelIdeal.Gen
open Idealize.ShloMosaic

variable {F : FTy → Type} [FloatOps F]

/-- The constant block. -/
abbrev constV (b : BitVec 32) : FVec F S512x64 .f32 := broadcast S512x64 (Scalar.ofBits .f32 b)

/-- The constant column. -/
abbrev constC (b : BitVec 32) : FVec F S512x1 .f32 := broadcast S512x1 (Scalar.ofBits .f32 b)

/-- A column repeated along the experts. -/
abbrev wideV (t : FVec F S512x1 .f32) : FVec F S512x64 .f32 := broadcastTo S512x64 t broadcasts_S512x1_S512x64

/-- The maximum of each row, as a column. -/
def topV (p : FVec F S512x64 .f32) : FVec F S512x1 .f32 :=
  shapeCast S512x1 (multiReduction .maximumf [1] S512 p 0xFF800000#32 reduces_S512x64_S512 (.inl rfl) rfl)
    shapeCasts_S512_S512x1

/-- The sum of each row, as a column. -/
def sumV (p : FVec F S512x64 .f32) : FVec F S512x1 .f32 :=
  shapeCast S512x1 (multiReduction .add [1] S512 p 0x00000000#32 reduces_S512x64_S512 (.inl rfl) rfl)
    shapeCasts_S512_S512x1

/-- The scores of a block of tokens. -/
def logitV (x : Vec F S512x4096 .f32) (w : Vec F S4096x64 .f32) (b : Vec F S1x64 .f32) : FVec F S512x64 .f32 :=
  addf (matmul dot_S512x4096_S4096x64_S512x64_1_0_0_1_n_n none (shapeCast S512x4096 x shapeCasts_S512x4096_S512x4096)
      (shapeCast S4096x64 w shapeCasts_S4096x64_S4096x64) (constant S512x64 .f32 0x00000000#32))
    (broadcastTo S512x64 (shapeCast S1x64 b shapeCasts_S1x64_S1x64) broadcasts_S1x64_S512x64)

/-- The rows' exponentials, each row shifted by its maximum. -/
def expV (l : FVec F S512x64 .f32) : FVec F S512x64 .f32 := exp (subf l (wideV (topV l)))

/-- The probabilities: each row of scores through the softmax. -/
def softV (l : FVec F S512x64 .f32) : FVec F S512x64 .f32 := divf (expV l) (wideV (sumV (expV l)))

/-- The probabilities of a block of tokens. -/
def probV (x : Vec F S512x4096 .f32) (w : Vec F S4096x64 .f32) (b : Vec F S1x64 .f32) : FVec F S512x64 .f32 :=
  softV (logitV x w b)

/-- The expert numbers. -/
abbrev numV : IVec S512x64 32 := iota .tc S512x64 32 [1] iota_S512x64_d1_w32

/-- The chosen expert of each row: the least number among those holding the maximum. -/
def pickV (p : FVec F S512x64 .f32) : IVec S512x1 32 :=
  shapeCast S512x1 (multiReductionI .minsi [1] S512
      (select (cmpf .oge p (wideV (topV p))) numV (broadcast S512x64 64#32)) 2147483647#32
      reduces_S512x64_S512 rfl) shapeCasts_S512_S512x1

/-- The chosen expert of each row as a one-hot row. -/
def hotV (p : FVec F S512x64 .f32) : FVec F S512x64 .f32 :=
  sitofp .f32 (extui 32 (cmpi .eq numV (broadcastTo S512x64 (pickV p) broadcasts_S512x1_S512x64)) natLt_1_32)

/-- Where the chosen expert is. -/
abbrev hitV (p : FVec F S512x64 .f32) : IVec S512x64 1 := cmpf .ogt (hotV p) (constV 0x00000000#32)

/-- The rows with the chosen entry overwritten by `-1`. -/
def nextV (p : FVec F S512x64 .f32) : FVec F S512x64 .f32 := select (hitV p) (constV 0xBF800000#32) p

/-- The rows after `r` rounds. -/
def roundV (p : FVec F S512x64 .f32) : ℕ → FVec F S512x64 .f32
  | 0 => p
  | r + 1 => nextV (roundV p r)

/-- The sum of the first `r + 1` maxima. -/
def topsV (p : FVec F S512x64 .f32) : ℕ → FVec F S512x1 .f32
  | 0 => topV (roundV p 0)
  | r + 1 => addf (topsV p r) (topV (roundV p (r + 1)))

/-- The normalizer of the weights: the sum of the eight maxima, at least `1e-6`. -/
def denV (p : FVec F S512x64 .f32) : FVec F S512x1 .f32 := maximumf (topsV p 7) (constC 0x358637BD#32)

/-- The block moved down by one row, zeros on top; the others move by the named number of rows. -/
def down1 (c : FVec F S512x64 .f32) : FVec F S512x64 .f32 :=
  concatenate S512x64 0 [⟨S1x64, broadcast S1x64 (Scalar.ofBits .f32 0x00000000#32)⟩,
    ⟨S511x64, extractStridedSlice S511x64 ![0, 0] c slices_S512x64_o0_0_S511x64⟩] concatenates_S1x64_S511x64_S512x64_d0
def down2 (c : FVec F S512x64 .f32) : FVec F S512x64 .f32 :=
  concatenate S512x64 0 [⟨S2x64, broadcast S2x64 (Scalar.ofBits .f32 0x00000000#32)⟩,
    ⟨S510x64, extractStridedSlice S510x64 ![0, 0] c slices_S512x64_o0_0_S510x64⟩] concatenates_S2x64_S510x64_S512x64_d0
def down4 (c : FVec F S512x64 .f32) : FVec F S512x64 .f32 :=
  concatenate S512x64 0 [⟨S4x64, broadcast S4x64 (Scalar.ofBits .f32 0x00000000#32)⟩,
    ⟨S508x64, extractStridedSlice S508x64 ![0, 0] c slices_S512x64_o0_0_S508x64⟩] concatenates_S4x64_S508x64_S512x64_d0
def down8 (c : FVec F S512x64 .f32) : FVec F S512x64 .f32 :=
  concatenate S512x64 0 [⟨S8x64, broadcast S8x64 (Scalar.ofBits .f32 0x00000000#32)⟩,
    ⟨S504x64, extractStridedSlice S504x64 ![0, 0] c slices_S512x64_o0_0_S504x64⟩] concatenates_S8x64_S504x64_S512x64_d0
def down16 (c : FVec F S512x64 .f32) : FVec F S512x64 .f32 :=
  concatenate S512x64 0 [⟨S16x64, broadcast S16x64 (Scalar.ofBits .f32 0x00000000#32)⟩,
    ⟨S496x64, extractStridedSlice S496x64 ![0, 0] c slices_S512x64_o0_0_S496x64⟩] concatenates_S16x64_S496x64_S512x64_d0
def down32 (c : FVec F S512x64 .f32) : FVec F S512x64 .f32 :=
  concatenate S512x64 0 [⟨S32x64, broadcast S32x64 (Scalar.ofBits .f32 0x00000000#32)⟩,
    ⟨S480x64, extractStridedSlice S480x64 ![0, 0] c slices_S512x64_o0_0_S480x64⟩] concatenates_S32x64_S480x64_S512x64_d0
def down64 (c : FVec F S512x64 .f32) : FVec F S512x64 .f32 :=
  concatenate S512x64 0 [⟨S64x64, broadcast S64x64 (Scalar.ofBits .f32 0x00000000#32)⟩,
    ⟨S448x64, extractStridedSlice S448x64 ![0, 0] c slices_S512x64_o0_0_S448x64⟩] concatenates_S64x64_S448x64_S512x64_d0
def down128 (c : FVec F S512x64 .f32) : FVec F S512x64 .f32 :=
  concatenate S512x64 0 [⟨S128x64, broadcast S128x64 (Scalar.ofBits .f32 0x00000000#32)⟩,
    ⟨S384x64, extractStridedSlice S384x64 ![0, 0] c slices_S512x64_o0_0_S384x64⟩] concatenates_S128x64_S384x64_S512x64_d0
def down256 (c : FVec F S512x64 .f32) : FVec F S512x64 .f32 :=
  concatenate S512x64 0 [⟨S256x64, broadcast S256x64 (Scalar.ofBits .f32 0x00000000#32)⟩,
    ⟨S256x64, extractStridedSlice S256x64 ![0, 0] c slices_S512x64_o0_0_S256x64⟩] concatenates_S256x64_S256x64_S512x64_d0

/-- A block added to itself moved down. -/
abbrev step (d : FVec F S512x64 .f32 → FVec F S512x64 .f32) (c : FVec F S512x64 .f32) : FVec F S512x64 .f32 := addf c (d c)

/-- The running sum down the rows of the block. -/
def cumV (h : FVec F S512x64 .f32) : FVec F S512x64 .f32 :=
  step down256 (step down128 (step down64 (step down32 (step down16 (step down8 (step down4 (step down2 (step down1 h))))))))

/-- Which chosen experts still have room: the count so far, this token included, less one, is below the capacity. -/
def roomV (h : FVec F S512x64 .f32) (c : Vec F S1x64 .f32) : IVec S512x64 1 :=
  andi (cmpf .olt (subf (addf (broadcastTo S512x64 c broadcasts_S1x64_S512x64) (cumV h)) (constV 0x3F800000#32))
    (constV 0x44A00000#32)) (cmpf .ogt h (constV 0x00000000#32))

/-- The accepted assignments of one round, as ones and zeros. -/
def keepV (h : FVec F S512x64 .f32) (c : Vec F S1x64 .f32) : FVec F S512x64 .f32 :=
  select (roomV h c) (constV 0x3F800000#32) (constV 0x00000000#32)

/-- The accepted assignments times the normalized maximum. -/
def partV (h : FVec F S512x64 .f32) (c : Vec F S1x64 .f32) (t d : FVec F S512x1 .f32) : FVec F S512x64 .f32 :=
  mulf (keepV h c) (wideV (divf t d))

/-- The counters after the block: the counters before plus the block's last running sum. -/
def bumpV (h : FVec F S512x64 .f32) (c : Vec F S1x64 .f32) : FVec F S1x64 .f32 :=
  shapeCast S1x64 (addf c (extractStridedSlice S1x64 ![511, 0] (cumV h) slices_S512x64_o511_0_S1x64))
    shapeCasts_S1x64_S1x64

/-- The sum of the accepted assignments of the rounds before `r`; `c` holds one row of counters per round. -/
def dispV (p : FVec F S512x64 .f32) (c : ℕ → Vec F S1x64 .f32) : ℕ → FVec F S512x64 .f32
  | 0 => constV 0x00000000#32
  | r + 1 => addf (dispV p c r) (keepV (hotV (roundV p r)) (c r))

/-- The sum of the weighted accepted assignments of the rounds before `r`. -/
def sharesV (p : FVec F S512x64 .f32) (c : ℕ → Vec F S1x64 .f32) : ℕ → FVec F S512x64 .f32
  | 0 => constV 0x00000000#32
  | r + 1 => addf (sharesV p c r) (partV (hotV (roundV p r)) (c r) (topV (roundV p r)) (denV p))

/-- The shares kept where something was accepted. -/
def maskedV (a d : FVec F S512x64 .f32) : FVec F S512x64 .f32 :=
  mulf a (sitofp .f32 (extui 32 (cmpf .ogt d (constV 0x00000000#32)) natLt_1_32))

/-- The shares of each token, divided by their sum (at least `1e-6`). -/
def combV (a d : FVec F S512x64 .f32) : FVec F S512x64 .f32 :=
  divf (maskedV a d) (wideV (maximumf (sumV (maskedV a d)) (constC 0x358637BD#32)))

/-! ## The printed values, step by step -/

section Rounds

variable (x : Vec F S512x4096 .f32) (w : Vec F S4096x64 .f32) (b : Vec F S1x64 .f32) (p : FVec F S512x64 .f32)

theorem pay7_eq : k0_pay7 x w b = topV (probV x w b) := rfl
theorem pay8_eq : k0_pay8 x w b = hotV (probV x w b) := rfl
theorem pay9_eq : k0_pay9 x w b = nextV (probV x w b) := rfl
theorem pay10_eq : k0_pay10 x w b = topV (nextV (probV x w b)) := rfl
theorem pay11_eq : k0_pay11 x w b = wideV (topV (nextV (probV x w b))) := rfl
theorem pay12_eq : k0_pay12 numV p (wideV (topV p)) = hotV p := rfl
theorem pay14_eq : k0_pay14 numV p (wideV (topV p)) = topV (nextV p) := rfl
theorem pay15_eq : k0_pay15 numV p (wideV (topV p)) = hotV (nextV p) := rfl
theorem pay17_eq : k0_pay17 numV p (wideV (topV p)) = topV (nextV (nextV p)) := rfl
theorem pay18_eq : k0_pay18 numV p (wideV (topV p)) = hotV (nextV (nextV p)) := rfl
theorem pay19_eq : k0_pay19 numV p (wideV (topV p)) = nextV (nextV (nextV p)) := rfl
theorem pay20_eq : k0_pay20 p = topV p := rfl
theorem pay21_eq : k0_pay21 numV p = hotV p := rfl
theorem pay23_eq : k0_pay23 numV p = topV (nextV p) := rfl
theorem pay24_eq : k0_pay24 numV p = hotV (nextV p) := rfl
theorem pay25_eq : k0_pay25 numV p = nextV (nextV p) := rfl
theorem pay26_eq : k0_pay26 numV p = topV (nextV (nextV p)) := rfl
theorem pay27_eq : k0_pay27 numV p = hotV (nextV (nextV p)) := rfl
theorem pay28_eq : k0_pay28 numV p = hitV (nextV (nextV p)) := rfl
theorem pay30_eq : k0_pay30 p (hitV p) (FloatOps.ofBits .f32 3212836864#32) = topV (nextV p) := rfl
theorem pay31_eq : k0_pay31 numV p (hitV p) (FloatOps.ofBits .f32 3212836864#32) = hotV (nextV p) := rfl
theorem pay32_eq (t0 t1 t2 t3 t4 t5 t6 : FVec F S512x1 .f32) :
    k0_pay32 t0 t1 t2 t3 t4 t5 p t6 (hitV p) (FloatOps.ofBits .f32 3212836864#32)
      = maximumf (addf (addf (addf (addf (addf (addf (addf t0 t1) t2) t3) t4) t5) t6) (topV (nextV p)))
          (constC 0x358637BD#32) := rfl

end Rounds

section Ranks

variable (t d : FVec F S512x1 .f32) (h a : FVec F S512x64 .f32) (c : Vec F S1x64 .f32)

theorem pay33_eq : (k0_pay33 : FVec F S512x64 .f32) = constV 0x00000000#32 := rfl
theorem pay34_eq : (k0_pay34 : FVec F S512x64 .f32) = constV 0x00000000#32 := rfl
theorem pay39_eq : k0_pay39 t h d a (k0_pay35 h) (k0_pay36 h) c = addf a (partV h c t d) := rfl
theorem pay40_eq : k0_pay40 h a (k0_pay35 h) (k0_pay36 h) c = addf a (keepV h c) := rfl
theorem pay41_eq : k0_pay41 (k0_pay35 h) (k0_pay36 h) c = bumpV h c := rfl
theorem pay45_eq : k0_pay45 (k0_pay42 h) k0_pay43 (k0_pay44 h) = cumV h := rfl
theorem pay46_eq : k0_pay46 h (k0_pay42 h) k0_pay43 (k0_pay44 h) c = keepV h c := rfl
theorem pay47_eq : k0_pay47 t h d (k0_pay42 h) k0_pay43 (k0_pay44 h) c = partV h c t d := rfl
theorem pay48_eq (a' : FVec F S512x64 .f32) : k0_pay48 a a' = addf a a' := rfl
theorem pay49_eq (a' : FVec F S512x64 .f32) : k0_pay49 a a' = addf a a' := rfl
theorem pay50_eq : k0_pay50 (cumV h) c = bumpV h c := rfl
theorem pay51_eq : k0_pay51 h = cumV h := rfl
theorem pay53_eq : k0_pay53 t h d a (cumV h) c = addf a (partV h c t d) := rfl
theorem pay54_eq : k0_pay54 h a (cumV h) c = addf a (keepV h c) := rfl
theorem pay55_eq : k0_pay55 (cumV h) c = bumpV h c := rfl
theorem pay59_eq : k0_pay59 t h d a (k0_pay56 h) (FloatOps.ofBits .f32 0#32) c = addf a (partV h c t d) := rfl
theorem pay60_eq : k0_pay60 h a (k0_pay56 h) (FloatOps.ofBits .f32 0#32) c = addf a (keepV h c) := rfl
theorem pay61_eq : k0_pay61 (k0_pay56 h) (FloatOps.ofBits .f32 0#32) c = bumpV h c := rfl
theorem pay63_eq : k0_pay63 (k0_pay62 h) = cumV h := rfl
theorem pay64_eq : k0_pay64 h (k0_pay62 h) c = keepV h c := rfl
theorem pay65_eq : k0_pay65 t d a (keepV h c) = addf a (partV h c t d) := rfl
theorem pay66_eq (a' : FVec F S512x64 .f32) : k0_pay66 a a' = addf a a' := rfl
theorem pay67_eq : k0_pay67 (cumV h) c = bumpV h c := rfl
theorem pay72_eq : k0_pay72 t h d a (k0_pay68 h) (k0_pay69 h) c = addf a (partV h c t d) := rfl
theorem pay73_eq : k0_pay73 h a (k0_pay68 h) (k0_pay69 h) c = addf a (keepV h c) := rfl
theorem pay74_eq : k0_pay74 (k0_pay68 h) (k0_pay69 h) c = bumpV h c := rfl
theorem pay80_eq : k0_pay80 t h d a (k0_pay75 h) k0_pay76 (k0_pay77 h) c = addf a (partV h c t d) := rfl
theorem pay81_eq : k0_pay81 h a (k0_pay75 h) k0_pay76 (k0_pay77 h) c = addf a (keepV h c) := rfl
theorem pay82_eq : k0_pay82 (k0_pay75 h) k0_pay76 (k0_pay77 h) c = bumpV h c := rfl
theorem pay84_eq : k0_pay84 h k0_pay83 = cumV h := rfl
theorem pay85_eq : k0_pay85 h k0_pay83 c = roomV h c := rfl
theorem pay3_eq : k0_pay3 (cumV h) c = bumpV h c := rfl
theorem pay2_eq : k0_pay2 a (roomV h c) (FloatOps.ofBits .f32 1065353216#32) (FloatOps.ofBits .f32 0#32)
    = addf a (keepV h c) := rfl
theorem pay4_eq (a' : FVec F S512x64 .f32) :
    k0_pay4 t d a a' (roomV h c) (FloatOps.ofBits .f32 1065353216#32) (FloatOps.ofBits .f32 0#32)
      = combV (addf a (partV h c t d)) (addf a' (keepV h c)) := rfl

end Ranks

end Cert.Router
-- ==== Proof.BlockRun.lean ====
/-
  What one grid point of the router kernel leaves: the two blocks of results and the eight rows of counters, as the
  functions of Proof/Block.lean. At the first point the counters start at zero, at the others they are what the
  point before left.
-/
module

public import proofs.«01_k».proof.Proof.Block
public import proofs.«01_k».proof.Proof.Gen.KernelIdeal.Frame
public import Idealize.ShloMosaic.Lib.ValueIdxCore
public import Idealize.ShloMosaic.Lib.Pipeline.Value

@[expose] public section

set_option maxRecDepth 16384

noncomputable section

namespace Cert.Router

open Cert.KernelIdeal Cert.KernelIdeal.Gen
open Idealize.ShloMosaic Idealize.ShloMosaic.TcCoe Idealize.ShloMosaic.Tactic
open Idealize.ShloMosaic.ValueIdx

variable {F : FTy → Type} [FloatOps F]

theorem zeros2 : (![0, 0] : Fin 2 → Nat) = fun _ => 0 := funext fun a => by fin_cases a <;> rfl

/-- Row `r` of the counters. -/
def cntRow (s : Vec F S8x64 .f32) (r : ℕ) : Vec F S1x64 .f32 :=
  fun y => s (ix2 ⟨r % 8, Nat.mod_lt _ (by decide)⟩ (y 1 : Fin 64))

/-- The block of the first result. -/
def dispBlk (x : Vec F S512x4096 .f32) (w : Vec F S4096x64 .f32) (b : Vec F S1x64 .f32) (s : Vec F S8x64 .f32) :
    Vec F S512x64 .f32 := dispV (probV x w b) (cntRow s) 8

/-- The block of the second result. -/
def combBlk (x : Vec F S512x4096 .f32) (w : Vec F S4096x64 .f32) (b : Vec F S1x64 .f32) (s : Vec F S8x64 .f32) :
    Vec F S512x64 .f32 :=
  combV (sharesV (probV x w b) (cntRow s) 8) (dispV (probV x w b) (cntRow s) 8)

/-- The counters the point leaves. -/
def cntBlk (x : Vec F S512x4096 .f32) (w : Vec F S4096x64 .f32) (b : Vec F S1x64 .f32) (s : Vec F S8x64 .f32) :
    Vec F S8x64 .f32 :=
  fun y => bumpV (hotV (roundV (probV x w b) (y 0).val)) (cntRow s (y 0).val) (ix2 (0 : Fin 1) (y 1 : Fin 64))

/-- A load of one row of the counters reads that row. -/
theorem ld_row (s : Vec F S8x64 .f32) (r : ℕ) (inb : ∀ a, (![r, 0] : Fin 2 → ℕ) a + S1x64.size a ≤ S8x64.size a) :
    View.ld s (Rect.unit (s := S8x64) ![r, 0] S1x64.size inb) = cntRow s r := by
  funext y
  have hr : r < 8 := by have := inb 0; simp at this; omega
  refine congrArg s (funext fun a => Fin.ext ?_)
  have h0 : (y 0).val = 0 := by have := (y 0).isLt; simp at this; omega
  match a with
  | ⟨0, _⟩ =>
    show r + 1 * (y 0).val = r % 8
    rw [h0, Nat.mod_eq_of_lt hr]; omega
  | ⟨1, _⟩ =>
    show 0 + 1 * (y 1).val = (y 1).val
    omega

theorem ld_row' (s : Vec F S8x64 .f32) (r : ℕ) (inb : ∀ a, (![r, 0] : Fin 2 → ℕ) a + (![1, 64] : Fin 2 → ℕ) a ≤ S8x64.size a) :
    View.ld s (Rect.unit (s := S8x64) ![r, 0] ![1, 64] inb) = cntRow s r := ld_row s r inb

/-- Under the stores of other rows, a row of the counters is what was stored before. -/
theorem cov_row {κ : Kind} {sp : Space} (v : View sig κ sp S8x64 .f32) (k r : ℕ) (hk : (k == r) = false)
    (inbk : ∀ a, (![k, 0] : Fin 2 → ℕ) a + (![1, 64] : Fin 2 → ℕ) a ≤ S8x64.size a)
    (inbr : ∀ a, (![r, 0] : Fin 2 → ℕ) a + (![1, 64] : Fin 2 → ℕ) a ≤ S8x64.size a)
    (w : S1x64.Idx → Elt F .f32) (L : List (View.Piece (Elt F) S8x64 .f32)) :
    v.readCov ((⟨Rect.unit (s := S8x64) ![k, 0] ![1, 64] inbk, w⟩ : View.Piece (Elt F) S8x64 .f32) :: L)
        (Rect.unit (s := S8x64) ![r, 0] ![1, 64] inbr).toLoadRect
      = v.readCov L (Rect.unit (s := S8x64) ![r, 0] ![1, 64] inbr).toLoadRect := by
  have hk : k ≠ r := by simpa using hk
  rw [View.readCov_eq_canon', View.readCov_eq_canon']
  funext j
  refine View.canon_cons_of_not_mem _ _ fun hj => ?_
  have h0 : (j 0).val = 0 := by have := (j 0).isLt; simp at this; omega
  have h := (Rect.mem_set_unit (inb := inbk)).mp hj 0
  change k ≤ r + 1 * (j 0).val ∧ r + 1 * (j 0).val < k + 1 at h
  omega

/-- Once the whole of the counters is stored, a row of them is that row of the stored block. -/
theorem cov_whole {κ : Kind} {sp : Space} (v : View sig κ sp S8x64 .f32) (r : ℕ)
    (inb : ∀ a, (![0, 0] : Fin 2 → ℕ) a + (![8, 64] : Fin 2 → ℕ) a ≤ S8x64.size a)
    (inbr : ∀ a, (![r, 0] : Fin 2 → ℕ) a + (![1, 64] : Fin 2 → ℕ) a ≤ S8x64.size a) (w : S8x64.Idx → Elt F .f32) :
    v.readCov [(⟨Rect.unit (s := S8x64) ![0, 0] ![8, 64] inb, w⟩ : View.Piece (Elt F) S8x64 .f32)]
        (Rect.unit (s := S8x64) ![r, 0] ![1, 64] inbr).toLoadRect = cntRow w r := by
  rw [View.readCov_eq_canon']
  have e : View.canon [(⟨Rect.unit (s := S8x64) ![0, 0] ![8, 64] inb, w⟩ : View.Piece (Elt F) S8x64 .f32)] = w :=
    View.canon_unit_zero (S := S8x64) zeros2 inb w
  rw [e]
  exact ld_row w r inbr

/-- Eight rows stored one after the other leave each what was stored into it. -/
theorem canon_rows (G : Vec F S8x64 .f32) (L : List (View.Piece (Elt F) S8x64 .f32))
    (w0 w1 w2 w3 w4 w5 w6 w7 : S1x64.Idx → Elt F .f32)
    (i0 : ∀ a, (![0, 0] : Fin 2 → ℕ) a + S1x64.size a ≤ S8x64.size a)
    (i1 : ∀ a, (![1, 0] : Fin 2 → ℕ) a + S1x64.size a ≤ S8x64.size a)
    (i2 : ∀ a, (![2, 0] : Fin 2 → ℕ) a + S1x64.size a ≤ S8x64.size a)
    (i3 : ∀ a, (![3, 0] : Fin 2 → ℕ) a + S1x64.size a ≤ S8x64.size a)
    (i4 : ∀ a, (![4, 0] : Fin 2 → ℕ) a + S1x64.size a ≤ S8x64.size a)
    (i5 : ∀ a, (![5, 0] : Fin 2 → ℕ) a + S1x64.size a ≤ S8x64.size a)
    (i6 : ∀ a, (![6, 0] : Fin 2 → ℕ) a + S1x64.size a ≤ S8x64.size a)
    (i7 : ∀ a, (![7, 0] : Fin 2 → ℕ) a + S1x64.size a ≤ S8x64.size a)
    (h0 : w0 = cntRow G 0) (h1 : w1 = cntRow G 1) (h2 : w2 = cntRow G 2) (h3 : w3 = cntRow G 3)
    (h4 : w4 = cntRow G 4) (h5 : w5 = cntRow G 5) (h6 : w6 = cntRow G 6) (h7 : w7 = cntRow G 7) :
    View.canon ((⟨Rect.unit (s := S8x64) ![7, 0] S1x64.size i7, w7⟩ : View.Piece (Elt F) S8x64 .f32) ::
      ⟨Rect.unit (s := S8x64) ![6, 0] S1x64.size i6, w6⟩ :: ⟨Rect.unit (s := S8x64) ![5, 0] S1x64.size i5, w5⟩ ::
      ⟨Rect.unit (s := S8x64) ![4, 0] S1x64.size i4, w4⟩ :: ⟨Rect.unit (s := S8x64) ![3, 0] S1x64.size i3, w3⟩ ::
      ⟨Rect.unit (s := S8x64) ![2, 0] S1x64.size i2, w2⟩ :: ⟨Rect.unit (s := S8x64) ![1, 0] S1x64.size i1, w1⟩ ::
      ⟨Rect.unit (s := S8x64) ![0, 0] S1x64.size i0, w0⟩ :: L) = G := by
  subst h0 h1 h2 h3 h4 h5 h6 h7
  funext y
  have hy : ∀ (r : ℕ) (inb : ∀ a, (![r, 0] : Fin 2 → ℕ) a + S1x64.size a ≤ S8x64.size a), (y 0).val = r →
      (Rect.unit (s := S8x64) ![r, 0] S1x64.size inb).emb (ix2 (0 : Fin 1) (y 1 : Fin 64)) = y := by
    intro r inb h
    refine funext fun a => Fin.ext ?_
    match a with
    | ⟨0, _⟩ =>
      show r + 1 * 0 = (y 0).val
      omega
    | ⟨1, _⟩ =>
      show 0 + 1 * (y 1).val = (y 1).val
      omega
  have hn : ∀ (r : ℕ) (inb : ∀ a, (![r, 0] : Fin 2 → ℕ) a + S1x64.size a ≤ S8x64.size a), (y 0).val ≠ r →
      y ∉ (Rect.unit (s := S8x64) ![r, 0] S1x64.size inb).set := by
    intro r inb h hj
    have := (Rect.mem_set_unit (inb := inb)).mp hj 0
    change r ≤ (y 0).val ∧ (y 0).val < r + 1 at this
    omega
  have hv : ∀ (r : ℕ), (y 0).val = r → cntRow G r (ix2 (0 : Fin 1) (y 1 : Fin 64)) = G y := by
    intro r h
    refine congrArg G (funext fun a => Fin.ext ?_)
    match a with
    | ⟨0, _⟩ =>
      show r % 8 = (y 0).val
      have := idx2_lt0 (n0 := 8) (n1 := 64) y
      omega
    | ⟨1, _⟩ => rfl
  have hlt := idx2_lt0 (n0 := 8) (n1 := 64) y
  have key : ∀ (r : ℕ) (inb : ∀ a, (![r, 0] : Fin 2 → ℕ) a + S1x64.size a ≤ S8x64.size a)
      (L : List (View.Piece (Elt F) S8x64 .f32)), ((y 0).val ≠ r → View.canon L y = G y) →
      View.canon ((⟨Rect.unit (s := S8x64) ![r, 0] S1x64.size inb, cntRow G r⟩ : View.Piece (Elt F) S8x64 .f32) :: L) y
        = G y := by
    intro r inb L hL
    by_cases h : (y 0).val = r
    · have e := View.canon_cons_emb (Val := Elt F) (Rect.unit (s := S8x64) ![r, 0] S1x64.size inb) (cntRow G r) L
        (ix2 (0 : Fin 1) (y 1 : Fin 64))
      rw [hy r inb h] at e
      rw [e]; exact hv r h
    · exact (View.canon_cons_of_not_mem ⟨Rect.unit (s := S8x64) ![r, 0] S1x64.size inb, cntRow G r⟩ L (hn r inb h)).trans (hL h)
  refine key 7 i7 _ fun n7 => key 6 i6 _ fun n6 => key 5 i5 _ fun n5 => key 4 i4 _ fun n4 => key 3 i3 _ fun n3 =>
    key 2 i2 _ fun n2 => key 1 i1 _ fun n1 => key 0 i0 _ fun n0 => ?_
  omega

/-- Row `r` of the counters a point leaves. -/
theorem cntRow_cntBlk (x : Vec F S512x4096 .f32) (w : Vec F S4096x64 .f32) (b : Vec F S1x64 .f32) (s : Vec F S8x64 .f32)
    (r : ℕ) (hr : r < 8) :
    cntRow (cntBlk x w b s) r = bumpV (hotV (roundV (probV x w b) r)) (cntRow s r) := by
  funext y
  have h0 : (y 0).val = 0 := by have := (y 0).isLt; simp at this; omega
  have e : y = ix2 (0 : Fin 1) (y 1 : Fin 64) := by
    refine funext fun a => ?_
    match a with
    | ⟨0, _⟩ => exact Fin.ext h0
    | ⟨1, _⟩ => rfl
  show bumpV (hotV (roundV (probV x w b) (r % 8))) (cntRow s (r % 8)) (ix2 (0 : Fin 1) (y 1 : Fin 64)) = _
  rw [Nat.mod_eq_of_lt hr]
  exact congrArg _ e.symm

theorem row_eq (x : Vec F S512x4096 .f32) (w : Vec F S4096x64 .f32) (b : Vec F S1x64 .f32) (s : Vec F S8x64 .f32)
    {p : FVec F S512x64 .f32} (hp : p = probV x w b) (r : ℕ) (hr : r < 8) {q : FVec F S512x64 .f32}
    (hq : q = roundV p r) : bumpV (hotV q) (cntRow s r) = cntRow (cntBlk x w b s) r := by
  subst hp hq
  exact (cntRow_cntBlk x w b s r hr).symm

theorem v21_A : kernelRun0_A.sl.v21 = numV := rfl
theorem v21_B : kernelRun0_B.sl.v21 = numV := rfl

section Points

variable (c : Dev nD) (i : grid0.Coords) (arg1 : Memref sig .tc .vmem S512x4096 .f32) (harg1 : arg1.IsWhole)
    (arg2 : Memref sig .tc .vmem S4096x64 .f32) (harg2 : arg2.IsWhole) (arg3 : Memref sig .tc .vmem S1x64 .f32)
    (harg3 : arg3.IsWhole) (arg4 : Memref sig .tc .vmem S512x64 .f32) (harg4 : arg4.IsWhole)
    (arg5 : Memref sig .tc .vmem S512x64 .f32) (harg5 : arg5.IsWhole) (arg6 : Memref sig .tc .vmem S8x64 .f32)
    (harg6 : arg6.IsWhole) (x0 : Vec F S512x4096 .f32) (x1 : Vec F S4096x64 .f32) (x2 : Vec F S1x64 .f32)

theorem out_B_3 (hc0 : ¬cond0_0 i) (xs0 : Vec F S8x64 .f32) :
    out0_B_3 c i arg1 harg1 arg2 harg2 arg3 harg3 arg4 harg4 arg5 harg5 arg6 harg6 hc0 x0 x1 x2 xs0 = dispBlk x0 x1 x2 xs0 := by
  unfold out0_B_3
  rw [View.read_writes_eq_canon _ _ _ (cover0_B_3 c i arg1 harg1 arg2 harg2 arg3 harg3 arg4 harg4 arg5 harg5 arg6 harg6 hc0 x0 x1 x2 xs0)]
  unfold kernelRun0_B
  dsimp only
  rw [View.canon_unit_zero (S := S512x64) zeros2]
  simp only [v21_B,
    kernelRun0_B.sl.r, kernelRun0_B.sl.r_1, kernelRun0_B.sl.r_2, kernelRun0_B.sl.r_3, kernelRun0_B.sl.r_4,
    kernelRun0_B.sl.r_5, kernelRun0_B.sl.r_6, kernelRun0_B.sl.r_7, kernelRun0_B.sl.r_8, kernelRun0_B.sl.r_9,
    kernelRun0_B.sl.r_10, kernelRun0_B.sl.r_11, kernelRun0_B.sl.r_12, kernelRun0_B.sl.r_13, kernelRun0_B.sl.r_14,
    kernelRun0_B.sl.r_15, kernelRun0_B.sl.r_16, kernelRun0_B.sl.r_17, kernelRun0_B.sl.r_18, kernelRun0_B.sl.r_19,
    kernelRun0_B.sl.r_20, kernelRun0_B.sl.r_21, kernelRun0_B.sl.r_22, kernelRun0_B.sl.r_23, kernelRun0_B.sl.r_24,
    kernelRun0_B.sl.r_25, kernelRun0_B.sl.r_26, kernelRun0_B.sl.r_27, kernelRun0_B.sl.r_28, kernelRun0_B.sl.r_29,
    kernelRun0_B.sl.r_30, kernelRun0_B.sl.r_31, kernelRun0_B.sl.r_32, kernelRun0_B.sl.r_33, kernelRun0_B.sl.r_34,
    kernelRun0_B.sl.r_35, kernelRun0_B.sl.r_36, kernelRun0_B.sl.r_37, kernelRun0_B.sl.r_38, kernelRun0_B.sl.r_39,
    kernelRun0_B.sl.r_40, kernelRun0_B.sl.r_41, kernelRun0_B.sl.r_42, kernelRun0_B.sl.r_43, kernelRun0_B.sl.r_44,
    kernelRun0_B.sl.r_45, kernelRun0_B.sl.r_46, kernelRun0_B.sl.r_47, kernelRun0_B.sl.r_48, kernelRun0_B.sl.r_49,
    kernelRun0_B.sl.r_50, kernelRun0_B.sl.r_51, kernelRun0_B.sl.r_52, kernelRun0_B.sl.r_53, kernelRun0_B.sl.cst_41,
    kernelRun0_B.sl.cst_111, kernelRun0_B.sl.cst_195, kernelRun0_B.sl.v253, kernelRun0_B.sl.v313,
    kernelRun0_B.sl.v373, kernelRun0_B.sl.v433, kernelRun0_B.sl.v493, kernelRun0_B.sl.v553, kernelRun0_B.sl.v613,
    kernelRun0_B.sl.v631,
    View.readAt_eq_ld, harg1.read_unread, harg2.read_unread, harg3.read_unread, harg6.read_unread,
    View.ld_unit_zero (S := S512x4096) zeros2, View.ld_unit_zero (S := S4096x64) zeros2, View.ld_unit_zero (S := S1x64) zeros2,
    ld_row, ld_row',
    pay7_eq, pay8_eq, pay9_eq, pay10_eq, pay11_eq, pay12_eq, pay14_eq, pay15_eq, pay17_eq, pay18_eq, pay19_eq, pay20_eq,
    pay21_eq, pay23_eq, pay24_eq, pay25_eq, pay26_eq, pay27_eq, pay28_eq, pay30_eq, pay31_eq, pay32_eq, pay33_eq, pay34_eq,
    pay39_eq, pay40_eq, pay41_eq, pay45_eq, pay46_eq, pay47_eq, pay48_eq, pay49_eq, pay50_eq, pay51_eq, pay53_eq, pay54_eq,
    pay55_eq, pay59_eq, pay60_eq, pay61_eq, pay63_eq, pay64_eq, pay65_eq, pay66_eq, pay67_eq, pay72_eq, pay73_eq, pay74_eq,
    pay80_eq, pay81_eq, pay82_eq, pay84_eq, pay85_eq, pay3_eq, pay2_eq, pay4_eq]
  rfl

theorem out_B_4 (hc0 : ¬cond0_0 i) (xs0 : Vec F S8x64 .f32) :
    out0_B_4 c i arg1 harg1 arg2 harg2 arg3 harg3 arg4 harg4 arg5 harg5 arg6 harg6 hc0 x0 x1 x2 xs0 = combBlk x0 x1 x2 xs0 := by
  unfold out0_B_4
  rw [View.read_writes_eq_canon _ _ _ (cover0_B_4 c i arg1 harg1 arg2 harg2 arg3 harg3 arg4 harg4 arg5 harg5 arg6 harg6 hc0 x0 x1 x2 xs0)]
  unfold kernelRun0_B
  dsimp only
  rw [View.canon_unit_zero (S := S512x64) zeros2]
  simp only [v21_B,
    kernelRun0_B.sl.r, kernelRun0_B.sl.r_1, kernelRun0_B.sl.r_2, kernelRun0_B.sl.r_3, kernelRun0_B.sl.r_4,
    kernelRun0_B.sl.r_5, kernelRun0_B.sl.r_6, kernelRun0_B.sl.r_7, kernelRun0_B.sl.r_8, kernelRun0_B.sl.r_9,
    kernelRun0_B.sl.r_10, kernelRun0_B.sl.r_11, kernelRun0_B.sl.r_12, kernelRun0_B.sl.r_13, kernelRun0_B.sl.r_14,
    kernelRun0_B.sl.r_15, kernelRun0_B.sl.r_16, kernelRun0_B.sl.r_17, kernelRun0_B.sl.r_18, kernelRun0_B.sl.r_19,
    kernelRun0_B.sl.r_20, kernelRun0_B.sl.r_21, kernelRun0_B.sl.r_22, kernelRun0_B.sl.r_23, kernelRun0_B.sl.r_24,
    kernelRun0_B.sl.r_25, kernelRun0_B.sl.r_26, kernelRun0_B.sl.r_27, kernelRun0_B.sl.r_28, kernelRun0_B.sl.r_29,
    kernelRun0_B.sl.r_30, kernelRun0_B.sl.r_31, kernelRun0_B.sl.r_32, kernelRun0_B.sl.r_33, kernelRun0_B.sl.r_34,
    kernelRun0_B.sl.r_35, kernelRun0_B.sl.r_36, kernelRun0_B.sl.r_37, kernelRun0_B.sl.r_38, kernelRun0_B.sl.r_39,
    kernelRun0_B.sl.r_40, kernelRun0_B.sl.r_41, kernelRun0_B.sl.r_42, kernelRun0_B.sl.r_43, kernelRun0_B.sl.r_44,
    kernelRun0_B.sl.r_45, kernelRun0_B.sl.r_46, kernelRun0_B.sl.r_47, kernelRun0_B.sl.r_48, kernelRun0_B.sl.r_49,
    kernelRun0_B.sl.r_50, kernelRun0_B.sl.r_51, kernelRun0_B.sl.r_52, kernelRun0_B.sl.r_53, kernelRun0_B.sl.cst_41,
    kernelRun0_B.sl.cst_111, kernelRun0_B.sl.cst_195, kernelRun0_B.sl.v253, kernelRun0_B.sl.v313,
    kernelRun0_B.sl.v373, kernelRun0_B.sl.v433, kernelRun0_B.sl.v493, kernelRun0_B.sl.v553, kernelRun0_B.sl.v613,
    kernelRun0_B.sl.v631,
    View.readAt_eq_ld, harg1.read_unread, harg2.read_unread, harg3.read_unread, harg6.read_unread,
    View.ld_unit_zero (S := S512x4096) zeros2, View.ld_unit_zero (S := S4096x64) zeros2, View.ld_unit_zero (S := S1x64) zeros2,
    ld_row, ld_row',
    pay7_eq, pay8_eq, pay9_eq, pay10_eq, pay11_eq, pay12_eq, pay14_eq, pay15_eq, pay17_eq, pay18_eq, pay19_eq, pay20_eq,
    pay21_eq, pay23_eq, pay24_eq, pay25_eq, pay26_eq, pay27_eq, pay28_eq, pay30_eq, pay31_eq, pay32_eq, pay33_eq, pay34_eq,
    pay39_eq, pay40_eq, pay41_eq, pay45_eq, pay46_eq, pay47_eq, pay48_eq, pay49_eq, pay50_eq, pay51_eq, pay53_eq, pay54_eq,
    pay55_eq, pay59_eq, pay60_eq, pay61_eq, pay63_eq, pay64_eq, pay65_eq, pay66_eq, pay67_eq, pay72_eq, pay73_eq, pay74_eq,
    pay80_eq, pay81_eq, pay82_eq, pay84_eq, pay85_eq, pay3_eq, pay2_eq, pay4_eq]
  rfl

theorem sout_B (hc0 : ¬cond0_0 i) (xs0 : Vec F S8x64 .f32) :
    sout0_B_0 c i arg1 harg1 arg2 harg2 arg3 harg3 arg4 harg4 arg5 harg5 arg6 harg6 hc0 x0 x1 x2 xs0 = cntBlk x0 x1 x2 xs0 := by
  unfold sout0_B_0
  rw [View.read_writes_eq_canon _ _ _ (scover0_B_0 c i arg1 harg1 arg2 harg2 arg3 harg3 arg4 harg4 arg5 harg5 arg6 harg6 hc0 x0 x1 x2 xs0)]
  unfold kernelRun0_B
  dsimp only
  simp only [v21_B,
    kernelRun0_B.sl.r, kernelRun0_B.sl.r_1, kernelRun0_B.sl.r_2, kernelRun0_B.sl.r_3, kernelRun0_B.sl.r_4,
    kernelRun0_B.sl.r_5, kernelRun0_B.sl.r_6, kernelRun0_B.sl.r_7, kernelRun0_B.sl.r_8, kernelRun0_B.sl.r_9,
    kernelRun0_B.sl.r_10, kernelRun0_B.sl.r_11, kernelRun0_B.sl.r_12, kernelRun0_B.sl.r_13, kernelRun0_B.sl.r_14,
    kernelRun0_B.sl.r_15, kernelRun0_B.sl.r_16, kernelRun0_B.sl.r_17, kernelRun0_B.sl.r_18, kernelRun0_B.sl.r_19,
    kernelRun0_B.sl.r_20, kernelRun0_B.sl.r_21, kernelRun0_B.sl.r_22, kernelRun0_B.sl.r_23, kernelRun0_B.sl.r_24,
    kernelRun0_B.sl.r_25, kernelRun0_B.sl.r_26, kernelRun0_B.sl.r_27, kernelRun0_B.sl.r_28, kernelRun0_B.sl.r_29,
    kernelRun0_B.sl.r_30, kernelRun0_B.sl.r_31, kernelRun0_B.sl.r_32, kernelRun0_B.sl.r_33, kernelRun0_B.sl.r_34,
    kernelRun0_B.sl.r_35, kernelRun0_B.sl.r_36, kernelRun0_B.sl.r_37, kernelRun0_B.sl.r_38, kernelRun0_B.sl.r_39,
    kernelRun0_B.sl.r_40, kernelRun0_B.sl.r_41, kernelRun0_B.sl.r_42, kernelRun0_B.sl.r_43, kernelRun0_B.sl.r_44,
    kernelRun0_B.sl.r_45, kernelRun0_B.sl.r_46, kernelRun0_B.sl.r_47, kernelRun0_B.sl.r_48, kernelRun0_B.sl.r_49,
    kernelRun0_B.sl.r_50, kernelRun0_B.sl.r_51, kernelRun0_B.sl.r_52, kernelRun0_B.sl.r_53, kernelRun0_B.sl.cst_41,
    kernelRun0_B.sl.cst_111, kernelRun0_B.sl.cst_195, kernelRun0_B.sl.v253, kernelRun0_B.sl.v313,
    kernelRun0_B.sl.v373, kernelRun0_B.sl.v433, kernelRun0_B.sl.v493, kernelRun0_B.sl.v553, kernelRun0_B.sl.v613,
    kernelRun0_B.sl.v631,
    View.readAt_eq_ld, harg1.read_unread, harg2.read_unread, harg3.read_unread, harg6.read_unread,
    View.ld_unit_zero (S := S512x4096) zeros2, View.ld_unit_zero (S := S4096x64) zeros2, View.ld_unit_zero (S := S1x64) zeros2,
    ld_row, ld_row',
    pay7_eq, pay8_eq, pay9_eq, pay10_eq, pay11_eq, pay12_eq, pay14_eq, pay15_eq, pay17_eq, pay18_eq, pay19_eq, pay20_eq,
    pay21_eq, pay23_eq, pay24_eq, pay25_eq, pay26_eq, pay27_eq, pay28_eq, pay30_eq, pay31_eq, pay32_eq, pay33_eq, pay34_eq,
    pay39_eq, pay40_eq, pay41_eq, pay45_eq, pay46_eq, pay47_eq, pay48_eq, pay49_eq, pay50_eq, pay51_eq, pay53_eq, pay54_eq,
    pay55_eq, pay59_eq, pay60_eq, pay61_eq, pay63_eq, pay64_eq, pay65_eq, pay66_eq, pay67_eq, pay72_eq, pay73_eq, pay74_eq,
    pay80_eq, pay81_eq, pay82_eq, pay84_eq, pay85_eq, pay3_eq, pay2_eq, pay4_eq]
  exact canon_rows _ _ _ _ _ _ _ _ _ _ _ _ _ _ _ _ _ _ (row_eq _ _ _ _ rfl _ (by decide) rfl)
    (row_eq _ _ _ _ rfl _ (by decide) rfl) (row_eq _ _ _ _ rfl _ (by decide) rfl) (row_eq _ _ _ _ rfl _ (by decide) rfl)
    (row_eq _ _ _ _ rfl _ (by decide) rfl) (row_eq _ _ _ _ rfl _ (by decide) rfl) (row_eq _ _ _ _ rfl _ (by decide) rfl)
    (row_eq _ _ _ _ rfl _ (by decide) rfl)

theorem out_A_3 (hc0 : cond0_0 i) :
    out0_A_3 c i arg1 harg1 arg2 harg2 arg3 harg3 arg4 harg4 arg5 harg5 arg6 harg6 hc0 x0 x1 x2 = dispBlk x0 x1 x2 k0_pay5 := by
  unfold out0_A_3
  rw [View.read_writes_eq_canon _ _ _ (cover0_A_3 c i arg1 harg1 arg2 harg2 arg3 harg3 arg4 harg4 arg5 harg5 arg6 harg6 hc0 x0 x1 x2)]
  unfold kernelRun0_A
  dsimp only
  rw [View.canon_unit_zero (S := S512x64) zeros2]
  simp only [v21_A,
    kernelRun0_A.sl.r, kernelRun0_A.sl.r_1, kernelRun0_A.sl.r_2, kernelRun0_A.sl.r_3, kernelRun0_A.sl.r_4,
    kernelRun0_A.sl.r_5, kernelRun0_A.sl.r_6, kernelRun0_A.sl.r_7, kernelRun0_A.sl.r_8, kernelRun0_A.sl.r_9,
    kernelRun0_A.sl.r_10, kernelRun0_A.sl.r_11, kernelRun0_A.sl.r_12, kernelRun0_A.sl.r_13, kernelRun0_A.sl.r_14,
    kernelRun0_A.sl.r_15, kernelRun0_A.sl.r_16, kernelRun0_A.sl.r_17, kernelRun0_A.sl.r_18, kernelRun0_A.sl.r_19,
    kernelRun0_A.sl.r_20, kernelRun0_A.sl.r_21, kernelRun0_A.sl.r_22, kernelRun0_A.sl.r_23, kernelRun0_A.sl.r_24,
    kernelRun0_A.sl.r_25, kernelRun0_A.sl.r_26, kernelRun0_A.sl.r_27, kernelRun0_A.sl.r_28, kernelRun0_A.sl.r_29,
    kernelRun0_A.sl.r_30, kernelRun0_A.sl.r_31, kernelRun0_A.sl.r_32, kernelRun0_A.sl.r_33, kernelRun0_A.sl.r_34,
    kernelRun0_A.sl.r_35, kernelRun0_A.sl.r_36, kernelRun0_A.sl.r_37, kernelRun0_A.sl.r_38, kernelRun0_A.sl.r_39,
    kernelRun0_A.sl.r_40, kernelRun0_A.sl.r_41, kernelRun0_A.sl.r_42, kernelRun0_A.sl.r_43, kernelRun0_A.sl.r_44,
    kernelRun0_A.sl.r_45, kernelRun0_A.sl.r_46, kernelRun0_A.sl.r_47, kernelRun0_A.sl.r_48, kernelRun0_A.sl.r_49,
    kernelRun0_A.sl.r_50, kernelRun0_A.sl.r_51, kernelRun0_A.sl.r_52, kernelRun0_A.sl.r_53, kernelRun0_A.sl.cst_41,
    kernelRun0_A.sl.cst_111, kernelRun0_A.sl.cst_195, kernelRun0_A.sl.v253, kernelRun0_A.sl.v313,
    kernelRun0_A.sl.v373, kernelRun0_A.sl.v433, kernelRun0_A.sl.v493, kernelRun0_A.sl.v553, kernelRun0_A.sl.v613,
    kernelRun0_A.sl.v631, kernelRun0_A.sl.v193, kernelRun0_A.sl.HS0_1, kernelRun0_A.sl.HS0_2,
    kernelRun0_A.sl.HS0_3, kernelRun0_A.sl.HS0_4, kernelRun0_A.sl.HS0_5, kernelRun0_A.sl.HS0_6,
    kernelRun0_A.sl.HS0_7,
    kernelRun0_A.sl.HS0_8,
    View.readAt_eq_ld, harg1.read_unread, harg2.read_unread, harg3.read_unread, cov_whole, cov_row, Nat.reduceBEq,
    View.ld_unit_zero (S := S512x4096) zeros2, View.ld_unit_zero (S := S4096x64) zeros2, View.ld_unit_zero (S := S1x64) zeros2,
    pay7_eq, pay8_eq, pay9_eq, pay10_eq, pay11_eq, pay12_eq, pay14_eq, pay15_eq, pay17_eq, pay18_eq, pay19_eq, pay20_eq,
    pay21_eq, pay23_eq, pay24_eq, pay25_eq, pay26_eq, pay27_eq, pay28_eq, pay30_eq, pay31_eq, pay32_eq, pay33_eq, pay34_eq,
    pay39_eq, pay40_eq, pay41_eq, pay45_eq, pay46_eq, pay47_eq, pay48_eq, pay49_eq, pay50_eq, pay51_eq, pay53_eq, pay54_eq,
    pay55_eq, pay59_eq, pay60_eq, pay61_eq, pay63_eq, pay64_eq, pay65_eq, pay66_eq, pay67_eq, pay72_eq, pay73_eq, pay74_eq,
    pay80_eq, pay81_eq, pay82_eq, pay84_eq, pay85_eq, pay3_eq, pay2_eq, pay4_eq]
  rfl

theorem out_A_4 (hc0 : cond0_0 i) :
    out0_A_4 c i arg1 harg1 arg2 harg2 arg3 harg3 arg4 harg4 arg5 harg5 arg6 harg6 hc0 x0 x1 x2 = combBlk x0 x1 x2 k0_pay5 := by
  unfold out0_A_4
  rw [View.read_writes_eq_canon _ _ _ (cover0_A_4 c i arg1 harg1 arg2 harg2 arg3 harg3 arg4 harg4 arg5 harg5 arg6 harg6 hc0 x0 x1 x2)]
  unfold kernelRun0_A
  dsimp only
  rw [View.canon_unit_zero (S := S512x64) zeros2]
  simp only [v21_A,
    kernelRun0_A.sl.r, kernelRun0_A.sl.r_1, kernelRun0_A.sl.r_2, kernelRun0_A.sl.r_3, kernelRun0_A.sl.r_4,
    kernelRun0_A.sl.r_5, kernelRun0_A.sl.r_6, kernelRun0_A.sl.r_7, kernelRun0_A.sl.r_8, kernelRun0_A.sl.r_9,
    kernelRun0_A.sl.r_10, kernelRun0_A.sl.r_11, kernelRun0_A.sl.r_12, kernelRun0_A.sl.r_13, kernelRun0_A.sl.r_14,
    kernelRun0_A.sl.r_15, kernelRun0_A.sl.r_16, kernelRun0_A.sl.r_17, kernelRun0_A.sl.r_18, kernelRun0_A.sl.r_19,
    kernelRun0_A.sl.r_20, kernelRun0_A.sl.r_21, kernelRun0_A.sl.r_22, kernelRun0_A.sl.r_23, kernelRun0_A.sl.r_24,
    kernelRun0_A.sl.r_25, kernelRun0_A.sl.r_26, kernelRun0_A.sl.r_27, kernelRun0_A.sl.r_28, kernelRun0_A.sl.r_29,
    kernelRun0_A.sl.r_30, kernelRun0_A.sl.r_31, kernelRun0_A.sl.r_32, kernelRun0_A.sl.r_33, kernelRun0_A.sl.r_34,
    kernelRun0_A.sl.r_35, kernelRun0_A.sl.r_36, kernelRun0_A.sl.r_37, kernelRun0_A.sl.r_38, kernelRun0_A.sl.r_39,
    kernelRun0_A.sl.r_40, kernelRun0_A.sl.r_41, kernelRun0_A.sl.r_42, kernelRun0_A.sl.r_43, kernelRun0_A.sl.r_44,
    kernelRun0_A.sl.r_45, kernelRun0_A.sl.r_46, kernelRun0_A.sl.r_47, kernelRun0_A.sl.r_48, kernelRun0_A.sl.r_49,
    kernelRun0_A.sl.r_50, kernelRun0_A.sl.r_51, kernelRun0_A.sl.r_52, kernelRun0_A.sl.r_53, kernelRun0_A.sl.cst_41,
    kernelRun0_A.sl.cst_111, kernelRun0_A.sl.cst_195, kernelRun0_A.sl.v253, kernelRun0_A.sl.v313,
    kernelRun0_A.sl.v373, kernelRun0_A.sl.v433, kernelRun0_A.sl.v493, kernelRun0_A.sl.v553, kernelRun0_A.sl.v613,
    kernelRun0_A.sl.v631, kernelRun0_A.sl.v193, kernelRun0_A.sl.HS0_1, kernelRun0_A.sl.HS0_2,
    kernelRun0_A.sl.HS0_3, kernelRun0_A.sl.HS0_4, kernelRun0_A.sl.HS0_5, kernelRun0_A.sl.HS0_6,
    kernelRun0_A.sl.HS0_7,
    kernelRun0_A.sl.HS0_8,
    View.readAt_eq_ld, harg1.read_unread, harg2.read_unread, harg3.read_unread, cov_whole, cov_row, Nat.reduceBEq,
    View.ld_unit_zero (S := S512x4096) zeros2, View.ld_unit_zero (S := S4096x64) zeros2, View.ld_unit_zero (S := S1x64) zeros2,
    pay7_eq, pay8_eq, pay9_eq, pay10_eq, pay11_eq, pay12_eq, pay14_eq, pay15_eq, pay17_eq, pay18_eq, pay19_eq, pay20_eq,
    pay21_eq, pay23_eq, pay24_eq, pay25_eq, pay26_eq, pay27_eq, pay28_eq, pay30_eq, pay31_eq, pay32_eq, pay33_eq, pay34_eq,
    pay39_eq, pay40_eq, pay41_eq, pay45_eq, pay46_eq, pay47_eq, pay48_eq, pay49_eq, pay50_eq, pay51_eq, pay53_eq, pay54_eq,
    pay55_eq, pay59_eq, pay60_eq, pay61_eq, pay63_eq, pay64_eq, pay65_eq, pay66_eq, pay67_eq, pay72_eq, pay73_eq, pay74_eq,
    pay80_eq, pay81_eq, pay82_eq, pay84_eq, pay85_eq, pay3_eq, pay2_eq, pay4_eq]
  rfl

theorem sout_A (hc0 : cond0_0 i) :
    sout0_A_0 c i arg1 harg1 arg2 harg2 arg3 harg3 arg4 harg4 arg5 harg5 arg6 harg6 hc0 x0 x1 x2 = cntBlk x0 x1 x2 k0_pay5 := by
  unfold sout0_A_0
  rw [View.read_writes_eq_canon _ _ _ (scover0_A_0 c i arg1 harg1 arg2 harg2 arg3 harg3 arg4 harg4 arg5 harg5 arg6 harg6 hc0 x0 x1 x2)]
  unfold kernelRun0_A
  dsimp only
  simp only [v21_A,
    kernelRun0_A.sl.r, kernelRun0_A.sl.r_1, kernelRun0_A.sl.r_2, kernelRun0_A.sl.r_3, kernelRun0_A.sl.r_4,
    kernelRun0_A.sl.r_5, kernelRun0_A.sl.r_6, kernelRun0_A.sl.r_7, kernelRun0_A.sl.r_8, kernelRun0_A.sl.r_9,
    kernelRun0_A.sl.r_10, kernelRun0_A.sl.r_11, kernelRun0_A.sl.r_12, kernelRun0_A.sl.r_13, kernelRun0_A.sl.r_14,
    kernelRun0_A.sl.r_15, kernelRun0_A.sl.r_16, kernelRun0_A.sl.r_17, kernelRun0_A.sl.r_18, kernelRun0_A.sl.r_19,
    kernelRun0_A.sl.r_20, kernelRun0_A.sl.r_21, kernelRun0_A.sl.r_22, kernelRun0_A.sl.r_23, kernelRun0_A.sl.r_24,
    kernelRun0_A.sl.r_25, kernelRun0_A.sl.r_26, kernelRun0_A.sl.r_27, kernelRun0_A.sl.r_28, kernelRun0_A.sl.r_29,
    kernelRun0_A.sl.r_30, kernelRun0_A.sl.r_31, kernelRun0_A.sl.r_32, kernelRun0_A.sl.r_33, kernelRun0_A.sl.r_34,
    kernelRun0_A.sl.r_35, kernelRun0_A.sl.r_36, kernelRun0_A.sl.r_37, kernelRun0_A.sl.r_38, kernelRun0_A.sl.r_39,
    kernelRun0_A.sl.r_40, kernelRun0_A.sl.r_41, kernelRun0_A.sl.r_42, kernelRun0_A.sl.r_43, kernelRun0_A.sl.r_44,
    kernelRun0_A.sl.r_45, kernelRun0_A.sl.r_46, kernelRun0_A.sl.r_47, kernelRun0_A.sl.r_48, kernelRun0_A.sl.r_49,
    kernelRun0_A.sl.r_50, kernelRun0_A.sl.r_51, kernelRun0_A.sl.r_52, kernelRun0_A.sl.r_53, kernelRun0_A.sl.cst_41,
    kernelRun0_A.sl.cst_111, kernelRun0_A.sl.cst_195, kernelRun0_A.sl.v253, kernelRun0_A.sl.v313,
    kernelRun0_A.sl.v373, kernelRun0_A.sl.v433, kernelRun0_A.sl.v493, kernelRun0_A.sl.v553, kernelRun0_A.sl.v613,
    kernelRun0_A.sl.v631, kernelRun0_A.sl.v193, kernelRun0_A.sl.HS0_1, kernelRun0_A.sl.HS0_2,
    kernelRun0_A.sl.HS0_3, kernelRun0_A.sl.HS0_4, kernelRun0_A.sl.HS0_5, kernelRun0_A.sl.HS0_6,
    kernelRun0_A.sl.HS0_7,
    kernelRun0_A.sl.HS0_8,
    View.readAt_eq_ld, harg1.read_unread, harg2.read_unread, harg3.read_unread, cov_whole, cov_row, Nat.reduceBEq,
    View.ld_unit_zero (S := S512x4096) zeros2, View.ld_unit_zero (S := S4096x64) zeros2, View.ld_unit_zero (S := S1x64) zeros2,
    pay7_eq, pay8_eq, pay9_eq, pay10_eq, pay11_eq, pay12_eq, pay14_eq, pay15_eq, pay17_eq, pay18_eq, pay19_eq, pay20_eq,
    pay21_eq, pay23_eq, pay24_eq, pay25_eq, pay26_eq, pay27_eq, pay28_eq, pay30_eq, pay31_eq, pay32_eq, pay33_eq, pay34_eq,
    pay39_eq, pay40_eq, pay41_eq, pay45_eq, pay46_eq, pay47_eq, pay48_eq, pay49_eq, pay50_eq, pay51_eq, pay53_eq, pay54_eq,
    pay55_eq, pay59_eq, pay60_eq, pay61_eq, pay63_eq, pay64_eq, pay65_eq, pay66_eq, pay67_eq, pay72_eq, pay73_eq, pay74_eq,
    pay80_eq, pay81_eq, pay82_eq, pay84_eq, pay85_eq, pay3_eq, pay2_eq, pay4_eq]
  exact canon_rows _ _ _ _ _ _ _ _ _ _ _ _ _ _ _ _ _ _ (row_eq _ _ _ _ rfl _ (by decide) rfl)
    (row_eq _ _ _ _ rfl _ (by decide) rfl) (row_eq _ _ _ _ rfl _ (by decide) rfl) (row_eq _ _ _ _ rfl _ (by decide) rfl)
    (row_eq _ _ _ _ rfl _ (by decide) rfl) (row_eq _ _ _ _ rfl _ (by decide) rfl) (row_eq _ _ _ _ rfl _ (by decide) rfl)
    (row_eq _ _ _ _ rfl _ (by decide) rfl)

end Points

end Cert.Router
-- ==== Proof.Select.lean ====
/-
  Choosing the eight largest entries of a row, one after the other. `best p` is the first position of the row's
  maximum; `left p r` the row after `r` rounds, each of which overwrites the position it chose by `-1`; `sel p r` the
  position round `r` chooses. On a row of nonnegative entries the rounds choose the positions a stable descending sort
  puts first (`sortedFrom_eq_sel`), and a round finds the row's own entry there (`left_sel`).
-/
module

public import Idealize.ShloMosaic.Lib.SortPrefix
public import Mathlib.Data.EReal.Operations

@[expose] public section

noncomputable section

namespace Cert.Router

open Idealize.ShloMosaic

/-- A row of one token: one number for each of the 64 experts. -/
abbrev Row := Fin 64 → EReal

/-- The positions of a row's maximum. -/
def tops (p : Row) : Finset (Fin 64) := Finset.univ.filter fun i => ∀ j, p j ≤ p i

theorem tops_nonempty (p : Row) : (tops p).Nonempty := by
  obtain ⟨i, -, hi⟩ := Finset.exists_max_image (Finset.univ : Finset (Fin 64)) p ⟨0, Finset.mem_univ _⟩
  exact ⟨i, by simpa [tops] using fun j => hi j (Finset.mem_univ j)⟩

/-- The first position of a row's maximum. -/
def best (p : Row) : Fin 64 := (tops p).min' (tops_nonempty p)

theorem le_best (p : Row) (j : Fin 64) : p j ≤ p (best p) := by
  have h := Finset.min'_mem (tops p) (tops_nonempty p)
  exact (Finset.mem_filter.mp h).2 j

theorem best_le_of_top (p : Row) (i : Fin 64) (h : ∀ j, p j ≤ p i) : best p ≤ i :=
  Finset.min'_le _ _ (by simpa [tops] using h)

theorem best_le_of_eq (p : Row) (i : Fin 64) (h : p (best p) ≤ p i) : best p ≤ i :=
  best_le_of_top p i fun j => (le_best p j).trans h

/-- The row after `r` rounds. -/
def left (p : Row) : ℕ → Row
  | 0 => p
  | r + 1 => fun j => if j = best (left p r) then -1 else left p r j

/-- What round `r` chooses. -/
def sel (p : Row) (r : ℕ) : Fin 64 := best (left p r)

theorem left_succ (p : Row) (r : ℕ) (j : Fin 64) : left p (r + 1) j = if j = sel p r then -1 else left p r j := rfl

/-- A position no earlier round chose still has its entry. -/
theorem left_of_unchosen (p : Row) (r : ℕ) (j : Fin 64) (h : ∀ s < r, sel p s ≠ j) : left p r j = p j := by
  induction r with
  | zero => rfl
  | succ r ih =>
    rw [left_succ, if_neg (fun e => h r (Nat.lt_succ_self r) e.symm)]
    exact ih fun s hs => h s (hs.trans (Nat.lt_succ_self r))

/-- A position an earlier round chose reads `-1`. -/
theorem left_of_chosen (p : Row) (r s : ℕ) (hs : s < r) : left p r (sel p s) = -1 := by
  induction r with
  | zero => exact absurd hs (Nat.not_lt_zero s)
  | succ r ih =>
    rw [left_succ]
    split
    · rfl
    · rename_i hne
      rcases Nat.lt_succ_iff_lt_or_eq.mp hs with h | h
      · exact ih h
      · exact absurd (by rw [h]) hne

/-- Fewer than 64 rounds leave a position unchosen. -/
theorem exists_unchosen (p : Row) (r : ℕ) (hr : r < 64) : ∃ j, ∀ s < r, sel p s ≠ j := by
  by_contra hcon
  push Not at hcon
  have hsub : (Finset.univ : Finset (Fin 64)) ⊆ (Finset.range r).image (sel p) := fun j _ => by
    obtain ⟨s, hs, e⟩ := hcon j
    exact Finset.mem_image.mpr ⟨s, Finset.mem_range.mpr hs, e⟩
  have := (Finset.card_le_card hsub).trans Finset.card_image_le
  rw [Finset.card_univ, Fintype.card_fin, Finset.card_range] at this
  omega

variable (p : Row) (hp : ∀ j, 0 ≤ p j)
include hp

theorem neg_one_lt : ∀ j, (-1 : EReal) < p j := fun j =>
  lt_of_lt_of_le (by
    have : ((-1 : ℝ) : EReal) < ((0 : ℝ) : EReal) := EReal.coe_lt_coe_iff.mpr (by norm_num)
    simpa using this) (hp j)

/-- On nonnegative rows a round chooses a new position. -/
theorem sel_ne (r s : ℕ) (hr : r < 64) (hs : s < r) : sel p s ≠ sel p r := by
  intro e
  obtain ⟨j, hj⟩ := exists_unchosen p r hr
  have h1 := le_best (left p r) j
  rw [left_of_unchosen p r j hj] at h1
  have h2 : left p r (best (left p r)) = -1 := by
    have := left_of_chosen p r s hs
    rwa [e] at this
  rw [h2] at h1
  exact absurd (neg_one_lt p hp j) (not_lt.mpr h1)

/-- A round finds the row's own entry at the position it chooses. -/
theorem left_sel (r : ℕ) (hr : r < 64) : left p r (sel p r) = p (sel p r) :=
  left_of_unchosen p r _ fun s hs => sel_ne p hp r s hr hs

/-- The order "larger entry first, of equal entries the lower position first". -/
def firstOf (k k' : Fin 64) : Bool := decide (p k' < p k) || (decide (p k = p k') && decide (k < k'))

omit hp in
theorem firstOf_total : StrictTotalBefore (firstOf p) := by
  refine StrictTotalBefore.of_key_then_position (fun a b : EReal => decide (b < a)) p ?_ ?_ ?_
  · intro a; simp
  · intro a b c hab hbc
    simp only [decide_eq_true_eq] at *
    exact hbc.trans hab
  · intro a b
    simp only [decide_eq_true_eq]
    rcases lt_trichotomy a b with h | h | h
    · exact Or.inr (Or.inr h)
    · exact Or.inr (Or.inl h)
    · exact Or.inl h

/-- No position still unchosen at round `r` comes before the one it chooses. -/
theorem not_firstOf_sel (r : ℕ) (hr : r < 64) (j : Fin 64) (hj : ∀ s < r, sel p s ≠ j) :
    firstOf p j (sel p r) = false := by
  have e1 := left_of_unchosen p r j hj
  have e2 := left_sel p hp r hr
  have h1 : p j ≤ p (sel p r) := by rw [← e1, ← e2]; exact le_best _ j
  unfold firstOf
  rw [Bool.or_eq_false_iff, Bool.and_eq_false_iff]
  refine ⟨decide_eq_false (not_lt.mpr h1), ?_⟩
  by_cases h : p j = p (sel p r)
  · refine Or.inr (decide_eq_false (not_lt.mpr (best_le_of_eq _ j ?_)))
    change left p r (sel p r) ≤ left p r j
    rw [e1, e2, h]
  · exact Or.inl (decide_eq_false h)

omit hp in
/-- On a list of rising positions a stable sort that compares the entries alone is the sort by `firstOf`. -/
theorem stableSort_firstOf (l : List (Fin 64)) (hl : l.Pairwise (· < ·)) :
    stableSort (fun k k' => decide (p k' < p k)) l = stableSort (firstOf p) l := by
  induction l with
  | nil => rfl
  | cons a l ih =>
    rw [List.pairwise_cons] at hl
    unfold stableSort
    rw [ih hl.2]
    refine insertBefore_congr _ _ a _ fun b hb => ?_
    have hb' := hl.1 b ((perm_stableSort _ l).mem_iff.mp hb)
    unfold firstOf
    rw [decide_eq_false (not_lt.mpr hb'.le), Bool.and_false, Bool.or_false]

/-- THE SELECTION: position `r` of the stable descending sort of a nonnegative row comes from where round `r` chooses,
    for each of the eight rounds. -/
theorem sortedFrom_eq_sel (r : Fin 8) :
    sortedFrom (fun k k' => decide (p k' < p k)) (r.castLE (by decide : 8 ≤ 64)) = sel p r := by
  have h := (firstOf_total p).sortedFrom_eq_of_prefix (by decide : 8 ≤ 64) (fun i : Fin 8 => sel p i)
    (fun i j e => by
      rcases lt_trichotomy i j with h | h | h
      · exact absurd e (sel_ne p hp j i (by omega) h)
      · exact h
      · exact absurd e.symm (sel_ne p hp i j (by omega) h))
    (fun i j hij => not_firstOf_sel p hp i (by omega) _ fun s hs => sel_ne p hp j s (by omega) (hs.trans hij))
    (fun i q hq => not_firstOf_sel p hp i (by omega) q fun s hs => hq ⟨s, by omega⟩) r
  rw [← h]
  have e : sortPositions 64 (fun k k' => decide (p k' < p k)) = sortPositions 64 (firstOf p) :=
    stableSort_firstOf p _ (List.pairwise_lt_finRange 64)
  unfold sortedFrom
  rw [List.get_of_eq e]
  rfl

end Cert.Router

end
-- ==== Proof.Spec.lean ====
/-
  The router on a sequence `P` of rows of probabilities, one row per token: the expert each round chooses, the running
  count of each expert, which assignments fit the capacity, and the two results made of them. Both programs are shown
  to compute these functions of their own rows of probabilities.
-/
module

public import proofs.«01_k».proof.Proof.Select
public import Idealize.ShloMosaic.PureOps.Ideal

@[expose] public section

noncomputable section

namespace Cert.Router

open Idealize.ShloMosaic

/-- The capacity of an expert, as the programs write it. -/
def cap : EReal := Ideal.ofBits .f32 0x44A00000#32

/-- The least normalizer, as the programs write it. -/
def eps : EReal := Ideal.ofBits .f32 0x358637BD#32

/-- The maximum of a row. -/
def peak (l : Row) : EReal := Finset.univ.fold max ⊥ l

/-- The softmax of a row of scores. -/
def soft (l : Row) : Row := fun e => Ideal.div (Ideal.exp (l e - peak l)) (∑ k, Ideal.exp (l k - peak l))

/-- The entry round `r` finds at its choice. -/
def pick (p : Row) (r : ℕ) : EReal := left p r (sel p r)

/-- The normalizer of a token's weights. -/
def den (p : Row) : EReal := max (∑ r ∈ Finset.range 8, pick p r) eps

/-- Round `r`'s choice of token `n` as a one-hot row. -/
def hot (P : ℕ → Row) (r n : ℕ) (e : Fin 64) : EReal := if sel (P n) r = e then 1 else 0

/-- How many of the first `n` tokens choose expert `e` in round `r`. -/
def count (P : ℕ → Row) (r n : ℕ) (e : Fin 64) : EReal := ∑ k ∈ Finset.range n, hot P r k e

/-- Whether round `r`'s choice of token `n` is expert `e` and fits its capacity, as a one or a zero. -/
def keep (P : ℕ → Row) (r n : ℕ) (e : Fin 64) : EReal := if count P r (n + 1) e - 1 < cap ∧ sel (P n) r = e then 1 else 0

/-- The accepted assignments of token `n`. -/
def disp (P : ℕ → Row) (n : ℕ) (e : Fin 64) : EReal := ∑ r ∈ Finset.range 8, keep P r n e

/-- The weighted accepted assignments of token `n`. -/
def share (P : ℕ → Row) (n : ℕ) (e : Fin 64) : EReal :=
  ∑ r ∈ Finset.range 8, keep P r n e * Ideal.div (pick (P n) r) (den (P n))

/-- The shares kept where something was accepted. -/
def masked (P : ℕ → Row) (n : ℕ) (e : Fin 64) : EReal := share P n e * if 0 < disp P n e then 1 else 0

/-- The weights of token `n`. -/
def comb (P : ℕ → Row) (n : ℕ) (e : Fin 64) : EReal :=
  Ideal.div (masked P n e) (max (∑ k, masked P n k) eps)

/-- The fold of `max` is the entry at the first position of the maximum. -/
theorem peak_eq (p : Row) : peak p = p (best p) := by
  refine le_antisymm ?_ ?_
  · exact (Finset.fold_max_le _).mpr ⟨bot_le, fun j _ => le_best p j⟩
  · exact (Finset.le_fold_max _).mpr (Or.inr ⟨best p, Finset.mem_univ _, le_rfl⟩)

theorem hot_pos (P : ℕ → Row) (r n : ℕ) (e : Fin 64) : 0 < hot P r n e ↔ sel (P n) r = e := by
  unfold hot
  split
  · exact ⟨fun _ => ‹_›, fun _ => zero_lt_one⟩
  · exact ⟨fun h => absurd h (lt_irrefl _), fun h => absurd h ‹_›⟩

/-- The constant `-1.0`. -/
theorem ofBits_neg_one : Ideal.ofBits .f32 0xBF800000#32 = -1 := by
  simp [Ideal.ofBits, Ideal.ieee]
  rw [← EReal.coe_one, ← EReal.coe_mul]
  norm_num

/-- The constant `-∞`. -/
theorem ofBits_bot : Ideal.ofBits .f32 0xFF800000#32 = ⊥ := by
  simp [Ideal.ofBits, Ideal.ieee]

/-! ## Sums over a window of the rows above -/

/-- The sum of the `w` entries that end at position `n`. -/
def window (g : ℕ → EReal) (w n : ℕ) : EReal := ∑ j ∈ Finset.range w, if j ≤ n then g (n - j) else 0

theorem window_one (g : ℕ → EReal) (n : ℕ) : window g 1 n = g n := by simp [window]

theorem window_double (g : ℕ → EReal) (w n : ℕ) :
    window g (w + w) n = window g w n + if n < w then 0 else window g w (n - w) := by
  unfold window
  rw [Finset.sum_range_add]
  congr 1
  split
  · exact Finset.sum_eq_zero fun j _ => if_neg (by omega)
  · refine Finset.sum_congr rfl fun j _ => ?_
    by_cases h : j ≤ n - w
    · rw [if_pos h, if_pos (by omega)]; congr 1; omega
    · rw [if_neg h, if_neg (by omega)]

theorem window_full (g : ℕ → EReal) (w n : ℕ) (h : n < w) : window g w n = ∑ k ∈ Finset.range (n + 1), g k := by
  obtain ⟨d, rfl⟩ : ∃ d, w = n + 1 + d := ⟨w - (n + 1), by omega⟩
  unfold window
  rw [Finset.sum_range_add, Finset.sum_eq_zero (s := Finset.range d) fun j _ => if_neg (by omega), add_zero,
    ← Finset.sum_range_reflect]
  refine Finset.sum_congr rfl fun j hj => ?_
  have := Finset.mem_range.mp hj
  rw [if_pos (by omega)]; congr 1; omega

end Cert.Router
-- ==== Proof.Cum.lean ====
/-
  The nine doubling steps of the kernel are the running sum down the rows of its block.
-/
module

public import proofs.«01_k».proof.Proof.Block
public import proofs.«01_k».proof.Proof.Spec
public import Idealize.ShloMosaic.Lib.Pointwise

@[expose] public section

set_option maxRecDepth 16384

noncomputable section

namespace Cert.Router

open Cert.KernelIdeal Cert.KernelIdeal.Gen
open Idealize.ShloMosaic

/-- Column `e` of a block as a sequence. -/
def column (h : FVec Ideal S512x64 .f32) (e : Fin 64) (n : ℕ) : EReal := if hn : n < 512 then h (ix2 ⟨n, hn⟩ e) else 0

/-- The block `c` holds the sums of the `w` rows of `h` that end at each row. -/
def Windows (h c : FVec Ideal S512x64 .f32) (w : ℕ) : Prop :=
  ∀ (a : Fin 512) (e : Fin 64), c (ix2 a e) = window (column h e) w a.val

/-- The function `d` moves a block down by `w` rows. -/
def Moves (d : FVec Ideal S512x64 .f32 → FVec Ideal S512x64 .f32) (w : ℕ) : Prop :=
  ∀ (c : FVec Ideal S512x64 .f32) (a : Fin 512) (e : Fin 64),
    d c (ix2 a e) = if a.val < w then 0 else c (ix2 ⟨a.val - w, lt_of_le_of_lt (Nat.sub_le _ _) a.isLt⟩ e)

/-- A doubling step. -/
theorem Windows.step {h c : FVec Ideal S512x64 .f32} {d : FVec Ideal S512x64 .f32 → FVec Ideal S512x64 .f32} {w : ℕ}
    (hc : Windows h c w) (hd : Moves d w) : Windows h (step d c) (w + w) := by
  intro a e
  rw [window_double]
  show c (ix2 a e) + d c (ix2 a e) = _
  rw [hc a e, hd c a e]
  congr 1
  split
  · rfl
  · exact hc _ e

theorem moves1 : Moves down1 1 := by intro c a e; pointwise [down1]; rfl
theorem moves2 : Moves down2 2 := by intro c a e; pointwise [down2]; rfl
theorem moves4 : Moves down4 4 := by intro c a e; pointwise [down4]; rfl
theorem moves8 : Moves down8 8 := by intro c a e; pointwise [down8]; rfl
theorem moves16 : Moves down16 16 := by intro c a e; pointwise [down16]; rfl
theorem moves32 : Moves down32 32 := by intro c a e; pointwise [down32]; rfl
theorem moves64 : Moves down64 64 := by intro c a e; pointwise [down64]; rfl
theorem moves128 : Moves down128 128 := by intro c a e; pointwise [down128]; rfl
theorem moves256 : Moves down256 256 := by intro c a e; pointwise [down256]; rfl

/-- The running sum: the row and all rows above it. -/
theorem cumV_apply (h : FVec Ideal S512x64 .f32) (a : Fin 512) (e : Fin 64) :
    cumV h (ix2 a e) = ∑ k ∈ Finset.range (a.val + 1), column h e k := by
  have h0 : Windows h h 1 := by
    intro a e
    rw [window_one, column, dif_pos a.isLt]
  have h9 : Windows h (cumV h) 512 :=
    ((((((((h0.step moves1).step moves2).step moves4).step moves8).step moves16).step moves32).step moves64).step
      moves128).step moves256
  rw [h9 a e, window_full _ _ _ a.isLt]

end Cert.Router
-- ==== Proof.Read.lean ====
/-
  One selection round of the kernel's block, read at a token: the maximum and the one-hot row of the chosen expert are
  those of the specification's round on that token's row.
-/
module

public import proofs.«01_k».proof.Proof.Block
public import proofs.«01_k».proof.Proof.Spec
public import Idealize.ShloMosaic.Lib.Pointwise
public import Idealize.ShloMosaic.Lib.SortNet.Extract

@[expose] public section

set_option maxRecDepth 16384

noncomputable section

namespace Cert.Router

open Cert.KernelIdeal Cert.KernelIdeal.Gen
open Idealize.ShloMosaic

/-- Row `a` of a block. -/
def row (p : FVec Ideal S512x64 .f32) (a : Fin 512) : Row := fun e => p (ix2 a e)

theorem topV_apply (p : FVec Ideal S512x64 .f32) (a : Fin 512) : topV p (ix2 a 0) = peak (row p a) := by
  pointwise [topV, ofBits_bot]
  rfl

theorem sumV_apply (p : FVec Ideal S512x64 .f32) (a : Fin 512) : sumV p (ix2 a 0) = ∑ e, p (ix2 a e) := by
  pointwise [sumV]

/-- The least of the numbers selected by `T`, when `m` is the least one selected. -/
theorem fold_minsi (T : Fin 64 → Prop) [DecidablePred T] (m : Fin 64) (hm : T m) (hle : ∀ i, T i → m ≤ i) :
    Finset.univ.fold IntOp.minsi 2147483647#32 (fun i : Fin 64 => if T i then BitVec.ofNat 32 i.val else 64#32)
      = BitVec.ofNat 32 m.val := by
  have small : ∀ i : Fin 64, (BitVec.ofNat 32 i.val).toInt = (i.val : ℤ) := by decide
  apply BitVec.eq_of_toInt_eq
  rw [← Finset.fold_hom (op' := min) (m := BitVec.toInt) (fun x y => SortNet.toInt_minsi x y), small]
  refine le_antisymm ?_ ?_
  · refine (Finset.fold_min_le _).mpr (Or.inr ⟨m, Finset.mem_univ _, ?_⟩)
    rw [if_pos hm, small]
  · refine (Finset.le_fold_min _).mpr ⟨?_, fun i _ => ?_⟩
    · have := m.isLt
      have e : (2147483647#32).toInt = 2147483647 := by decide
      rw [e]; omega
    · split
      · rw [small]; exact_mod_cast hle i ‹_›
      · have := m.isLt
        have e : (64#32).toInt = 64 := by decide
        rw [e]; omega

theorem pickV_apply (p : FVec Ideal S512x64 .f32) (a : Fin 512) :
    pickV p (ix2 a 0) = BitVec.ofNat 32 (best (row p a)).val := by
  pointwise [pickV]
  simp only [topV_apply, peak_eq]
  exact fold_minsi (fun i => row p a (best (row p a)) ≤ row p a i) _ le_rfl fun i hi => best_le_of_eq _ _ hi

theorem hotV_apply (p : FVec Ideal S512x64 .f32) (a : Fin 512) (e : Fin 64) :
    hotV p (ix2 a e) = if best (row p a) = e then 1 else 0 := by
  pointwise [hotV]
  rw [pickV_apply]
  have inj : ∀ i j : Fin 64, (BitVec.ofNat 32 i.val = BitVec.ofNat 32 j.val) ↔ i = j := by
    intro i j
    constructor
    · intro h
      have := congrArg BitVec.toNat h
      simp only [BitVec.toNat_ofNat] at this
      apply Fin.ext; omega
    · rintro rfl; rfl
  by_cases h : best (row p a) = e
  · rw [if_pos h, h]
    have : IntOp.cmpi .eq (BitVec.ofNat 32 e.val) (BitVec.ofNat 32 e.val) = 1#1 := by simp [IntOp.cmpi]
    rw [this]
    show (((1 : ℤ) : ℝ) : EReal) = 1
    simp
  · rw [if_neg h]
    have : IntOp.cmpi .eq (BitVec.ofNat 32 e.val) (BitVec.ofNat 32 (best (row p a)).val) = 0#1 := by
      have := (inj e (best (row p a))).not.mpr fun h' => h h'.symm
      show BitVec.ofBool (BitVec.ofNat 32 e.val == BitVec.ofNat 32 (best (row p a)).val) = 0#1
      rw [beq_eq_false_iff_ne.mpr this]; rfl
    rw [this]
    show (((0 : ℤ) : ℝ) : EReal) = 0
    simp

theorem row_nextV (p : FVec Ideal S512x64 .f32) (a : Fin 512) (e : Fin 64) :
    row (nextV p) a e = if e = best (row p a) then -1 else row p a e := by
  show nextV p (ix2 a e) = _
  pointwise [nextV, hotV_apply, ofBits_neg_one]
  by_cases h : best (row p a) = e
  · rw [if_pos h, if_pos zero_lt_one, if_pos h.symm]
  · rw [if_neg h, if_neg (lt_irrefl _), if_neg fun h' => h h'.symm]; rfl

theorem row_roundV (p : FVec Ideal S512x64 .f32) (a : Fin 512) (r : ℕ) : row (roundV p r) a = left (row p a) r := by
  induction r with
  | zero => rfl
  | succ r ih =>
    funext e
    show row (nextV (roundV p r)) a e = _
    rw [row_nextV, ih]
    rfl

theorem topV_roundV (p : FVec Ideal S512x64 .f32) (a : Fin 512) (r : ℕ) :
    topV (roundV p r) (ix2 a 0) = pick (row p a) r := by
  rw [topV_apply, row_roundV, peak_eq]; rfl

theorem hotV_roundV (p : FVec Ideal S512x64 .f32) (a : Fin 512) (e : Fin 64) (r : ℕ) :
    hotV (roundV p r) (ix2 a e) = if sel (row p a) r = e then 1 else 0 := by
  rw [hotV_apply, row_roundV]; rfl

theorem topsV_apply (p : FVec Ideal S512x64 .f32) (a : Fin 512) (r : ℕ) :
    topsV p r (ix2 a 0) = ∑ s ∈ Finset.range (r + 1), pick (row p a) s := by
  induction r with
  | zero => rw [Finset.sum_range_one]; exact topV_roundV p a 0
  | succ r ih =>
    show topsV p r (ix2 a 0) + topV (roundV p (r + 1)) (ix2 a 0) = _
    rw [ih, topV_roundV, Finset.sum_range_succ _ (r + 1)]

theorem denV_apply (p : FVec Ideal S512x64 .f32) (a : Fin 512) : denV p (ix2 a 0) = den (row p a) := by
  show max (topsV p 7 (ix2 a 0)) eps = _
  rw [topsV_apply]; rfl

/-- A row of the kernel's probabilities is the softmax of the row of scores. -/
theorem row_softV (l : FVec Ideal S512x64 .f32) (a : Fin 512) : row (softV l) a = soft (row l a) := by
  funext e
  show softV l (ix2 a e) = _
  pointwise [softV, expV, sumV_apply, topV_apply]
  rfl

end Cert.Router
-- ==== Proof.Ranks.lean ====
/-
  The capacity part of one grid point, read at a token. When the block's tokens are the tokens from `base` on of a
  sequence `P` of rows of probabilities, and the counters hold the counts of the tokens before `base`, the block's two
  results are the specification's at those tokens, and the new counters hold the counts with the block's tokens.
-/
module

public import proofs.«01_k».proof.Proof.Cum
public import proofs.«01_k».proof.Proof.Read

@[expose] public section

set_option maxRecDepth 16384

noncomputable section

namespace Cert.Router

open Cert.KernelIdeal Cert.KernelIdeal.Gen
open Idealize.ShloMosaic

variable (P : ℕ → Row) (base : ℕ) (p : FVec Ideal S512x64 .f32) (hp : ∀ a : Fin 512, row p a = P (base + a.val))

include hp

theorem hotV_at (r : ℕ) (a : Fin 512) (e : Fin 64) : hotV (roundV p r) (ix2 a e) = hot P r (base + a.val) e := by
  rw [hotV_roundV, hp]; rfl

theorem cumV_at (r : ℕ) (a : Fin 512) (e : Fin 64) :
    count P r base e + cumV (hotV (roundV p r)) (ix2 a e) = count P r (base + (a.val + 1)) e := by
  rw [cumV_apply]
  unfold count
  rw [Finset.sum_range_add _ base]
  congr 1
  refine Finset.sum_congr rfl fun k hk => ?_
  have hk' : k < 512 := by have := Finset.mem_range.mp hk; have := a.isLt; omega
  rw [column, dif_pos hk', hotV_at P base p hp]

theorem keepV_at (r : ℕ) (c : Vec Ideal S1x64 .f32) (hc : ∀ e, c (ix2 0 e) = count P r base e) (a : Fin 512)
    (e : Fin 64) : keepV (hotV (roundV p r)) c (ix2 a e) = keep P r (base + a.val) e := by
  have h1 : (0 < hotV (roundV p r) (ix2 a e)) ↔ sel (P (base + a.val)) r = e := by
    rw [hotV_at P base p hp]; exact hot_pos _ _ _ _
  have h2 : c (ix2 0 e) + cumV (hotV (roundV p r)) (ix2 a e) = count P r (base + a.val + 1) e := by
    rw [hc, cumV_at P base p hp]; rfl
  pointwise [keepV, roomV]
  rw [h2]
  unfold keep
  by_cases hs : sel (P (base + a.val)) r = e
  · by_cases hl : count P r (base + a.val + 1) e - 1 < cap
    · rw [if_pos ⟨hl, hs⟩]
      simp only [h1, hs]
      rw [show Ideal.ofBits .f32 1151336448#32 = cap from rfl, decide_eq_true hl]
      rfl
    · rw [if_neg fun h => hl h.1, show Ideal.ofBits .f32 1151336448#32 = cap from rfl, decide_eq_false hl]
      simp only [h1, hs]
      rfl
  · rw [if_neg fun h => hs h.2]
    simp only [h1, hs]
    rw [show Ideal.ofBits .f32 1151336448#32 = cap from rfl]
    by_cases hl : count P r (base + a.val + 1) e - 1 < cap
    · rw [decide_eq_true hl]; rfl
    · rw [decide_eq_false hl]; rfl

theorem bumpV_at (r : ℕ) (c : Vec Ideal S1x64 .f32) (hc : ∀ e, c (ix2 0 e) = count P r base e) (e : Fin 64) :
    bumpV (hotV (roundV p r)) c (ix2 0 e) = count P r (base + 512) e := by
  pointwise [bumpV]
  rw [hc]
  exact cumV_at P base p hp r 511 e

variable (c : ℕ → Vec Ideal S1x64 .f32) (hc : ∀ r < 8, ∀ e, c r (ix2 0 e) = count P r base e)

include hc

theorem dispV_at (R : ℕ) (hR : R ≤ 8) (a : Fin 512) (e : Fin 64) :
    dispV p c R (ix2 a e) = ∑ r ∈ Finset.range R, keep P r (base + a.val) e := by
  induction R with
  | zero => exact Ideal.ofBits_zero_f32
  | succ R ih =>
    rw [Finset.sum_range_succ, ← ih (by omega), ← keepV_at P base p hp R (c R) (hc R (by omega))]
    rfl

theorem sharesV_at (R : ℕ) (hR : R ≤ 8) (a : Fin 512) (e : Fin 64) :
    sharesV p c R (ix2 a e) = ∑ r ∈ Finset.range R,
      keep P r (base + a.val) e * Ideal.div (pick (P (base + a.val)) r) (den (P (base + a.val))) := by
  induction R with
  | zero => exact Ideal.ofBits_zero_f32
  | succ R ih =>
    rw [Finset.sum_range_succ, ← ih (by omega), ← keepV_at P base p hp R (c R) (hc R (by omega)), ← hp a,
      ← topV_roundV, ← denV_apply]
    show sharesV p c R (ix2 a e) + partV _ _ _ _ (ix2 a e) = _
    pointwise [partV]

theorem maskedV_at (a : Fin 512) (e : Fin 64) :
    maskedV (sharesV p c 8) (dispV p c 8) (ix2 a e) = masked P (base + a.val) e := by
  have h1 := dispV_at P base p hp c hc 8 le_rfl a e
  have h2 := sharesV_at P base p hp c hc 8 le_rfl a e
  pointwise [maskedV]
  rw [h1, h2]
  unfold masked
  change share P _ e * _ = _
  congr 1
  change FloatOps.sitofp FTy.f32 (BitVec.setWidth 32 (BitVec.ofBool (decide (0 < disp P (base + a.val) e)))) = _
  by_cases h : 0 < disp P (base + a.val) e
  · rw [if_pos h, decide_eq_true h]
    show (((1 : ℤ) : ℝ) : EReal) = 1
    simp
  · rw [if_neg h, decide_eq_false h]
    show (((0 : ℤ) : ℝ) : EReal) = 0
    simp

theorem combV_at (a : Fin 512) (e : Fin 64) :
    combV (sharesV p c 8) (dispV p c 8) (ix2 a e) = comb P (base + a.val) e := by
  pointwise [combV, sumV_apply, maskedV_at P base p hp c hc]
  rfl

end Cert.Router
-- ==== Proof.Scores.lean ====
/-
  The scores of the router's tokens and the sequence of their rows of probabilities: token `n` is row `n % 4096` of
  sequence `n / 4096` of `x`.
-/
module

public import proofs.«01_k».proof.Proof.Spec
public import Idealize.ShloMosaic.Lib.Pointwise.Index

@[expose] public section

noncomputable section

namespace Cert.Router

open Idealize.ShloMosaic

abbrev SX : Shape := ⟨3, ![2, 4096, 4096]⟩
abbrev SW : Shape := ⟨2, ![64, 4096]⟩
abbrev SB : Shape := ⟨1, ![64]⟩

/-- The row of scores of token `n`. -/
def score (x : FVec Ideal SX .f32) (w : FVec Ideal SW .f32) (b : FVec Ideal SB .f32) (n : ℕ) : Row := fun e =>
  (∑ k : Fin 4096, x (ix3 ⟨n / 4096 % 2, Nat.mod_lt _ (by decide)⟩ ⟨n % 4096, Nat.mod_lt _ (by decide)⟩ k) * w (ix2 e k))
    + b (ix1 e)

/-- The row of probabilities of token `n`. -/
def prob (x : FVec Ideal SX .f32) (w : FVec Ideal SW .f32) (b : FVec Ideal SB .f32) (n : ℕ) : Row := soft (score x w b n)

end Cert.Router
-- ==== Proof.Carry.lean ====
/-
  The grid points of the kernel. The input blocks of point `t` are the tokens from `512 t` on, the transposed weights
  and the bias; by induction on the point, the counters carried in the scratch hold the counts of all tokens of the
  points so far, and the two blocks a point leaves are the specification's results at its tokens.
-/
module

public import proofs.«01_k».proof.Proof.BlockRun
public import proofs.«01_k».proof.Proof.Ranks
public import proofs.«01_k».proof.Proof.Scores
public import Idealize.ShloMosaic.Lib.Claim
public import Idealize.ShloMosaic.Lib.Pipeline.ValueKit

@[expose] public section

set_option maxRecDepth 16384

noncomputable section

namespace Cert.Router

open Cert.KernelIdeal Cert.KernelIdeal.Gen
open Idealize.ShloMosaic Idealize.ShloMosaic.TcCoe Idealize.ShloMosaic.Tactic

variable (m : (ℓ : Loc nD τ sig) → Buf (Elt Ideal) ℓ) (c : Dev nD)

/-- The three arguments on core `c`. -/
abbrev argX : FVec Ideal S2x4096x4096 .f32 := m ((c.tc : Thread nD τ).loc main_arg0)
abbrev argW : FVec Ideal S64x4096 .f32 := m ((c.tc : Thread nD τ).loc main_arg1)
abbrev argB : FVec Ideal S64 .f32 := m ((c.tc : Thread nD τ).loc main_arg2)

/-- The rows of probabilities of the arguments. -/
abbrev rows : ℕ → Row := prob (argX m c) (argW m c) (argB m c)

/-! ## The input blocks -/

theorem V_x : (V m c main_v0 : Vec Ideal S8192x4096 .f32)
    = shapeCast S8192x4096 (argX m c) shapeCasts_S2x4096x4096_S8192x4096 := by
  unfold_abbrev_sides
  simp only [List.flatten_cons, List.flatten_nil, List.append_nil]
  after_results
  rfl

theorem V_w : (V m c main_v1 : Vec Ideal S4096x64 .f32)
    = transpose S4096x64 [1, 0] (argW m c) transposes_S64x4096_S4096x64_1_0 := by
  unfold_abbrev_sides
  simp only [List.flatten_cons, List.flatten_nil, List.append_nil]
  after_results
  try rfl

theorem V_b : (V m c main_v2 : Vec Ideal S1x64 .f32) = shapeCast S1x64 (argB m c) shapeCasts_S64_S1x64 := by
  unfold_abbrev_sides
  simp only [List.flatten_cons, List.flatten_nil, List.append_nil]
  after_results
  rfl

theorem V_x_apply (n : Fin 8192) (k : Fin 4096) : (V m c main_v0 : Vec Ideal S8192x4096 .f32) (ix2 n k)
    = argX m c (ix3 ⟨n.val / 4096 % 2, Nat.mod_lt _ (by decide)⟩ ⟨n.val % 4096, Nat.mod_lt _ (by decide)⟩ k) := by
  rw [V_x]
  pointwise
  have h : n.val / 4096 % 2 = n.val / 4096 := Nat.mod_eq_of_lt (by omega)
  simp only [h]

theorem V_w_apply (k : Fin 4096) (e : Fin 64) :
    (V m c main_v1 : Vec Ideal S4096x64 .f32) (ix2 k e) = argW m c (ix2 e k) := by
  rw [V_w]; pointwise

theorem V_b_apply (e : Fin 64) : (V m c main_v2 : Vec Ideal S1x64 .f32) (ix2 0 e) = argB m c (ix1 e) := by
  rw [V_b]; pointwise

theorem index_x (t : Fin grid0.N) : win0_0.index t 0 = t.val ∧ win0_0.index t 1 = 0 :=
  (by decide +kernel : ∀ t : Fin grid0.N, win0_0.index t 0 = t.val ∧ win0_0.index t 1 = 0) t
theorem index_w (t : Fin grid0.N) : win0_1.index t 0 = 0 ∧ win0_1.index t 1 = 0 :=
  (by decide +kernel : ∀ t : Fin grid0.N, win0_1.index t 0 = 0 ∧ win0_1.index t 1 = 0) t
theorem index_b (t : Fin grid0.N) : win0_2.index t 0 = 0 ∧ win0_2.index t 1 = 0 :=
  (by decide +kernel : ∀ t : Fin grid0.N, win0_2.index t 0 = 0 ∧ win0_2.index t 1 = 0) t

/-- The three blocks of point `t`. -/
abbrev blkX (t : Fin cfg0.N) : Vec Ideal S512x4096 .f32 := iblk m c 0 t
abbrev blkW (t : Fin cfg0.N) : Vec Ideal S4096x64 .f32 := iblk m c 1 t
abbrev blkB (t : Fin cfg0.N) : Vec Ideal S1x64 .f32 := iblk m c 2 t

theorem lt_N (t : Fin cfg0.N) : t.val < 16 := Nat.lt_of_lt_of_eq t.isLt N_0

theorem blkX_apply (t : Fin cfg0.N) (a : Fin 512) (k : Fin 4096) : blkX m c t (ix2 a k)
    = (V m c main_v0 : Vec Ideal S8192x4096 .f32) (ix2 ⟨512 * t.val + a.val, by have := lt_N t; omega⟩ k) := by
  unfold blkX iblk
  blk_simp
  refine congrArg (V m c main_v0 : Vec Ideal S8192x4096 .f32) (funext fun i => Fin.ext ?_)
  match i with
  | ⟨0, _⟩ =>
    show win0_0.index t 0 * 512 + 1 * a.val = 512 * t.val + a.val
    rw [(index_x t).1]; omega
  | ⟨1, _⟩ =>
    show win0_0.index t 1 * 4096 + 1 * k.val = k.val
    rw [(index_x t).2]; omega

theorem blkW_apply (t : Fin cfg0.N) (k : Fin 4096) (e : Fin 64) : blkW m c t (ix2 k e)
    = (V m c main_v1 : Vec Ideal S4096x64 .f32) (ix2 k e) := by
  unfold blkW iblk
  blk_simp
  refine congrArg (V m c main_v1 : Vec Ideal S4096x64 .f32) (funext fun i => Fin.ext ?_)
  match i with
  | ⟨0, _⟩ =>
    show win0_1.index t 0 * 4096 + 1 * k.val = k.val
    rw [(index_w t).1]; omega
  | ⟨1, _⟩ =>
    show win0_1.index t 1 * 64 + 1 * e.val = e.val
    rw [(index_w t).2]; omega

theorem blkB_apply (t : Fin cfg0.N) (e : Fin 64) : blkB m c t (ix2 0 e)
    = (V m c main_v2 : Vec Ideal S1x64 .f32) (ix2 0 e) := by
  unfold blkB iblk
  blk_simp
  refine congrArg (V m c main_v2 : Vec Ideal S1x64 .f32) (funext fun i => Fin.ext ?_)
  match i with
  | ⟨0, _⟩ =>
    show win0_2.index t 0 * 1 + 1 * 0 = 0
    rw [(index_b t).1]
  | ⟨1, _⟩ =>
    show win0_2.index t 1 * 64 + 1 * e.val = e.val
    rw [(index_b t).2]; omega

theorem blkX_at (t : Fin cfg0.N) (a : Fin 512) (k : Fin 4096) : blkX m c t (ix2 a k)
    = argX m c (ix3 ⟨(512 * t.val + a.val) / 4096 % 2, Nat.mod_lt _ (by decide)⟩
        ⟨(512 * t.val + a.val) % 4096, Nat.mod_lt _ (by decide)⟩ k) :=
  (blkX_apply m c t a k).trans (V_x_apply m c _ k)

theorem blkW_at (t : Fin cfg0.N) (k : Fin 4096) (e : Fin 64) : blkW m c t (ix2 k e) = argW m c (ix2 e k) :=
  (blkW_apply m c t k e).trans (V_w_apply m c k e)

theorem blkB_at (t : Fin cfg0.N) (e : Fin 64) : blkB m c t (ix2 0 e) = argB m c (ix1 e) :=
  (blkB_apply m c t e).trans (V_b_apply m c e)

/-- The probabilities of a point's block are those of its tokens. -/
theorem row_prob (t : Fin cfg0.N) (a : Fin 512) :
    row (probV (blkX m c t) (blkW m c t) (blkB m c t)) a = rows m c (512 * t.val + a.val) := by
  unfold probV
  rw [row_softV]
  refine congrArg soft (funext fun e => ?_)
  show logitV _ _ _ (ix2 a e) = _
  pointwise [logitV]
  simp only [blkX_at, blkW_at, blkB_at]
  rfl

/-! ## What a point leaves -/

theorem cntRow_apply (s : Vec Ideal S8x64 .f32) (r : ℕ) (e : Fin 64) :
    cntRow s r (ix2 0 e) = s (ix2 ⟨r % 8, Nat.mod_lt _ (by decide)⟩ e) := by
  rw [ix2_eq_valueIdx ⟨r % 8, _⟩ e]; rfl

/-- The two blocks and the counters are the specification's at point `t`. -/
def Right (t : ℕ) (o : Vec Ideal S512x64 .f32 × Vec Ideal S512x64 .f32 × Vec Ideal S8x64 .f32) : Prop :=
  (∀ (a : Fin 512) (e : Fin 64), o.1 (ix2 a e) = disp (rows m c) (512 * t + a.val) e)
  ∧ (∀ (a : Fin 512) (e : Fin 64), o.2.1 (ix2 a e) = comb (rows m c) (512 * t + a.val) e)
  ∧ ∀ (r : Fin 8) (e : Fin 64), o.2.2 (ix2 r e) = count (rows m c) r.val (512 * (t + 1)) e

/-- A point that finds the counts of the tokens before it leaves the right blocks and counters. -/
theorem right_of_counts (t : Fin cfg0.N) (s : Vec Ideal S8x64 .f32)
    (hs : ∀ (r : Fin 8) (e : Fin 64), s (ix2 r e) = count (rows m c) r.val (512 * t.val) e) :
    Right m c t.val (dispBlk (blkX m c t) (blkW m c t) (blkB m c t) s, combBlk (blkX m c t) (blkW m c t) (blkB m c t) s,
      cntBlk (blkX m c t) (blkW m c t) (blkB m c t) s) := by
  have hc : ∀ r < 8, ∀ e, cntRow s r (ix2 0 e) = count (rows m c) r (512 * t.val) e := by
    intro r hr e
    rw [cntRow_apply, hs]
    show count _ (r % 8) _ _ = _
    rw [Nat.mod_eq_of_lt hr]
  refine ⟨fun a e => ?_, fun a e => ?_, fun r e => ?_⟩
  · exact dispV_at (rows m c) (512 * t.val) _ (row_prob m c t) (cntRow s) hc 8 le_rfl a e
  · exact combV_at (rows m c) (512 * t.val) _ (row_prob m c t) (cntRow s) hc a e
  · have h := bumpV_at (rows m c) (512 * t.val) _ (row_prob m c t) r.val (cntRow s r.val) (hc r.val r.isLt) e
    rw [ix2_eq_valueIdx] at h
    exact h.trans (by rw [Nat.mul_succ])

/-- The cleared counters. -/
theorem cleared (r : Fin 8) (e : Fin 64) : (k0_pay5 : FVec Ideal S8x64 .f32) (ix2 r e) = 0 := by
  pointwise [k0_pay5]

/-- The first point clears the counters. -/
theorem right_first (t : Fin cfg0.N) (h0 : t.val = 0) : Right m c t.val (outsAt0 m c t.val t.isLt) := by
  rw [outsAt0_A m c t (by rw [h0]), out_A_3, out_A_4, sout_A]
  refine right_of_counts m c t _ fun r e => ?_
  rw [cleared, h0]
  exact (Finset.sum_range_zero _).symm

/-- A later point finds what the point before it left. -/
theorem right_later (t : Fin cfg0.N) (h0 : ¬t.val = 0)
    (h : Right m c (t.val - 1) (outsAt0 m c (t.val - 1) (Nat.lt_of_le_of_lt (Nat.sub_le _ _) t.isLt))) :
    Right m c t.val (outsAt0 m c t.val t.isLt) := by
  have ht := lt_N t
  rw [outsAt0_B m c t (by omega), out_B_3, out_B_4, sout_B]
  refine right_of_counts m c t _ fun r e => ?_
  rw [h.2.2 r e, Nat.sub_add_cancel (by omega)]

/-- Every point leaves the right blocks and counters. -/
theorem right (n : ℕ) (hn : n < cfg0.N) : Right m c n (outsAt0 m c n hn) := by
  induction n with
  | zero => exact right_first m c ⟨0, hn⟩ rfl
  | succ n ih => exact right_later m c ⟨n + 1, hn⟩ (Nat.succ_ne_zero n) (ih (Nat.lt_of_succ_lt hn))

end Cert.Router
-- ==== Proof.KernelRun.lean ====
/-
  What the kernel's run leaves: the two result arrays hold the specification's results of the arguments' rows of
  probabilities, token by token.
-/
module

public import proofs.«01_k».proof.Proof.Carry

@[expose] public section

set_option maxRecDepth 16384

noncomputable section

namespace Cert.Router

open Cert.KernelIdeal Cert.KernelIdeal.Gen
open Idealize.ShloMosaic Idealize.ShloMosaic.TcCoe Idealize.ShloMosaic.Tactic
open Idealize.SL.Sem

variable (m : (ℓ : Loc nD τ sig) → Buf (Elt Ideal) ℓ) (ρ : Dev nD → PrngReg) (c : Dev nD)

/-- A function of token and expert as an array of 8192 tokens. -/
def flat (f : ℕ → Fin 64 → EReal) : FVec Ideal S8192x64 .f32 := fun y => f (y 0).val (y 1)

/-- A function of token and expert as an array of two sequences of 4096 tokens. -/
def stacked (f : ℕ → Fin 64 → EReal) : FVec Ideal S2x4096x64 .f32 := fun j => f ((j 0).val * 4096 + (j 1).val) (j 2)

theorem shapeCast_flat (f : ℕ → Fin 64 → EReal) :
    shapeCast S2x4096x64 (flat f) shapeCasts_S8192x64_S2x4096x64 = stacked f := by
  funext j
  rw [eq_ix3 j]
  pointwise
  rfl

theorem index_3 (t : Fin grid0.N) : win0_3.index t 0 = t.val ∧ win0_3.index t 1 = 0 :=
  (by decide +kernel : ∀ t : Fin grid0.N, win0_3.index t 0 = t.val ∧ win0_3.index t 1 = 0) t
theorem index_4 (t : Fin grid0.N) : win0_4.index t 0 = t.val ∧ win0_4.index t 1 = 0 :=
  (by decide +kernel : ∀ t : Fin grid0.N, win0_4.index t 0 = t.val ∧ win0_4.index t 1 = 0) t

/-- Where element `(a, e)` of point `t`'s block of the first result is. -/
theorem flat_blk_3 (f : ℕ → Fin 64 → EReal) (t : Fin cfg0.N) (y : S512x64.Idx) :
    flat f ((win0_3.blk t).view.emb y) = f (512 * t.val + (y 0).val) (y 1) := by
  have e0 : win0_3.index t 0 * 512 + 1 * (y 0).val = 512 * t.val + (y 0).val := by rw [(index_3 t).1]; omega
  have e1 : win0_3.index t 1 * 64 + 1 * (y 1).val = (y 1).val := by rw [(index_3 t).2]; omega
  exact congrArg₂ f e0 (Fin.ext e1)

/-- Where element `(a, e)` of point `t`'s block of the second result is. -/
theorem flat_blk_4 (f : ℕ → Fin 64 → EReal) (t : Fin cfg0.N) (y : S512x64.Idx) :
    flat f ((win0_4.blk t).view.emb y) = f (512 * t.val + (y 0).val) (y 1) := by
  have e0 : win0_4.index t 0 * 512 + 1 * (y 0).val = 512 * t.val + (y 0).val := by rw [(index_4 t).1]; omega
  have e1 : win0_4.index t 1 * 64 + 1 * (y 1).val = (y 1).val := by rw [(index_4 t).2]; omega
  exact congrArg₂ f e0 (Fin.ext e1)

theorem array_3 : (dats m 0 c).arrAt 3 cfg0.N = flat (disp (rows m c)) := by
  refine (dats m 0 c).arrAt_eq_of_covers 3 _ (by decide +kernel) fun t hf y => ?_
  blk_simp
  rw [after0_3]
  refine Eq.trans ?_ (flat_blk_3 (disp (rows m c)) t y).symm
  have h := (right m c t.val t.isLt).1 (y 0) (y 1)
  exact (congrArg (outsAt0 m c t.val t.isLt).1 (eq_ix2 (n0 := 512) (n1 := 64) y)).trans h

theorem array_4 : (dats m 0 c).arrAt 4 cfg0.N = flat (comb (rows m c)) := by
  refine (dats m 0 c).arrAt_eq_of_covers 4 _ (by decide +kernel) fun t hf y => ?_
  blk_simp
  rw [after0_4]
  refine Eq.trans ?_ (flat_blk_4 (comb (rows m c)) t y).symm
  have h := (right m c t.val t.isLt).2.1 (y 0) (y 1)
  exact (congrArg (outsAt0 m c t.val t.isLt).2.1 (eq_ix2 (n0 := 512) (n1 := 64) y)).trans h

/-- The reshapes after the kernel's call leave the two results. -/
theorem tail_4 : Pipeline.afterTail₀ cfgs (dats m) 0 (V0 m) [hostOps1] c main_v4 = stacked (disp (rows m c)) := by
  unfold Pipeline.afterTail₀
  simp only [hostOps1, List.flatten_cons, List.flatten_nil, List.append_nil]
  after_results
  refine Eq.trans (congrArg (fun z : FVec Ideal S8192x64 .f32 => shapeCast S2x4096x64 z shapeCasts_S8192x64_S2x4096x64)
    ((Pipeline.withArrays_arr spec0 winFacts0.arr_inj c (V0 m c) (fun w => (dats m 0 c).arrAt w cfg0.N) 3).trans
      (array_3 m c))) (shapeCast_flat _)

theorem tail_5 : Pipeline.afterTail₀ cfgs (dats m) 0 (V0 m) [hostOps1] c main_v5 = stacked (comb (rows m c)) := by
  unfold Pipeline.afterTail₀
  simp only [hostOps1, List.flatten_cons, List.flatten_nil, List.append_nil]
  after_results
  refine Eq.trans (congrArg (fun z : FVec Ideal S8192x64 .f32 => shapeCast S2x4096x64 z shapeCasts_S8192x64_S2x4096x64)
    ((Pipeline.withArrays_arr spec0 winFacts0.arr_inj c (V0 m c) (fun w => (dats m 0 c).arrAt w cfg0.N) 4).trans
      (array_4 m c))) (shapeCast_flat _)

/-- The kernel's run: both results, the arguments unchanged. -/
theorem kernel_run : θ_run defs (onTc (τ := τ) (main (F := Ideal))) ⟨m, fun _ => 0, ρ⟩ (fun r => ∀ c : Dev nD,
      r.2.mem ((c.tc : Thread nD τ).loc main_v4) = stacked (disp (rows m c))
      ∧ r.2.mem ((c.tc : Thread nD τ).loc main_v5) = stacked (comb (rows m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  run_from run_main m ρ
  · exact tail_4 m c
  · exact tail_5 m c
  · exact W_main_arg0 m (dats m) c
  · exact W_main_arg1 m (dats m) c
  · exact W_main_arg2 m (dats m) c

end Cert.Router
-- ==== Proof.RefProb.lean ====
/-
  The reference's probabilities and its choice of experts, read at a token: the row of probabilities is the
  specification's, and where its entries are nonnegative the eight greatest are the specification's eight rounds.
-/
module

public import proofs.«01_k».proof.Proof.Gen.ReferenceIdeal.Run
public import proofs.«01_k».proof.Proof.Scores
public import Idealize.ShloMosaic.Lib.Pointwise

@[expose] public section

set_option maxRecDepth 16384

noncomputable section

namespace Cert.Router

open Cert.ReferenceIdeal Cert.ReferenceIdeal.Gen
open Idealize.ShloMosaic Idealize.ShloMosaic.TcCoe

/-! ## Scores and probabilities -/

/-- The reference's scores. -/
def scoreT (x : FVec Ideal S2x4096x4096 .f32) (w : FVec Ideal S64x4096 .f32) (b : FVec Ideal S64 .f32) :
    FVec Ideal S2x4096x64 .f32 :=
  addf (Host.dotGeneral dot_S2x4096x4096_S64x4096_S2x4096x64_2_1_01_0_n_n none x w)
    (broadcastInDim S2x4096x64 ![0, 1, 2] bcast_S1x1x64_S2x4096x64_0_1_2 (broadcastInDim S1x1x64 ![2] bcast_S64_S1x1x64_2 b))

theorem scoreT_apply (x : FVec Ideal S2x4096x4096 .f32) (w : FVec Ideal S64x4096 .f32) (b : FVec Ideal S64 .f32)
    (i : Fin 2) (s : Fin 4096) (e : Fin 64) :
    scoreT x w b (ix3 i s e) = score x w b (i.val * 4096 + s.val) e := by
  have hi : (⟨(i.val * 4096 + s.val) / 4096 % 2, Nat.mod_lt _ (by decide)⟩ : Fin 2) = i := Fin.ext (by
    have := i.isLt; have := s.isLt; show _ % 2 = _; omega)
  have hs : (⟨(i.val * 4096 + s.val) % 4096, Nat.mod_lt _ (by decide)⟩ : Fin 4096) = s := Fin.ext (by
    have := i.isLt; have := s.isLt; show _ % 4096 = _; omega)
  unfold score
  rw [hi, hs]
  pointwise [scoreT]

/-- The exponentials of the scores less their greatest. -/
def expT (l : FVec Ideal S2x4096x64 .f32) : FVec Ideal S2x4096x64 .f32 :=
  Host.exp (subf l (broadcastInDim S2x4096x64 ![0, 1, 2] bcast_S2x4096x1_S2x4096x64_0_1_2
    (broadcastInDim S2x4096x1 ![0, 1] bcast_S2x4096_S2x4096x1_0_1
      (maximumf (broadcastInDim S2x4096 ![] bcast_S_S2x4096 (constant S_ .f32 0xFF800000#32))
        (Host.reduce FloatOps.maximumf l (constant S_ .f32 0xFF800000#32) reducesTo_S2x4096x64_S2x4096_d2 h_S_)))))

/-- A row over the last axis. -/
def lane (l : FVec Ideal S2x4096x64 .f32) (i : Fin 2) (s : Fin 4096) : Row := fun e => l (ix3 i s e)

theorem expT_apply (l : FVec Ideal S2x4096x64 .f32) (i : Fin 2) (s : Fin 4096) (e : Fin 64) :
    expT l (ix3 i s e) = Ideal.exp (lane l i s e - peak (lane l i s)) := by
  pointwise [expT, ofBits_bot]
  rw [bot_sup_eq]
  rfl

/-- The exponentials divided by their sums. -/
def probT (l : FVec Ideal S2x4096x64 .f32) : FVec Ideal S2x4096x64 .f32 :=
  Host.divf (expT l) (broadcastInDim S2x4096x64 ![0, 1, 2] bcast_S2x4096x1_S2x4096x64_0_1_2
    (broadcastInDim S2x4096x1 ![0, 1] bcast_S2x4096_S2x4096x1_0_1
      (Host.reduceAdd (expT l) (constant S_ .f32 0x00000000#32) reducesTo_S2x4096x64_S2x4096_d2 h_S_)))

theorem probT_apply (l : FVec Ideal S2x4096x64 .f32) (i : Fin 2) (s : Fin 4096) (e : Fin 64) :
    probT l (ix3 i s e) = soft (lane l i s) e := by
  pointwise [probT]
  simp only [expT_apply]
  rfl

/-! ## The eight greatest -/

theorem along_last {a b c : ℕ} (i : Fin a) (s : Fin b) (e k : Fin c) (h : 2 < 3) :
    Shape.Idx.along (ix3 i s e : (⟨3, ![a, b, c]⟩ : Shape).Idx) ⟨2, h⟩ k = ix3 i s k := by
  funext d
  match d with
  | ⟨0, _⟩ => rfl
  | ⟨1, _⟩ => rfl
  | ⟨2, _⟩ => rfl

/-- What a sort of two arrays along the last axis puts at position `e` of a fiber. -/
theorem sort2_last {a b c : ℕ} {α β : Type} (cmp : α × β → α × β → BitVec 1) (x : (⟨3, ![a, b, c]⟩ : Shape).Idx → α)
    (y : (⟨3, ![a, b, c]⟩ : Shape).Idx → β) (i : Fin a) (s : Fin b) (e q : Fin c)
    (hq : sortedFrom (fun k k' => cmp (x (ix3 i s k), y (ix3 i s k)) (x (ix3 i s k'), y (ix3 i s k')) == 1#1) e = q) :
    (Host.sort2 ⟨3, ![a, b, c]⟩ 2 cmp x y).1 (ix3 i s e) = x (ix3 i s q)
      ∧ (Host.sort2 ⟨3, ![a, b, c]⟩ 2 cmp x y).2 (ix3 i s e) = y (ix3 i s q) := by
  subst hq
  unfold Host.sort2
  rw [dif_pos (show 2 < (⟨3, ![a, b, c]⟩ : Shape).rank from (by decide : 2 < 3))]
  have key := fun k : Fin c => along_last i s e k (by decide)
  constructor
  · refine congrArg x ((key _).trans (congrArg (ix3 i s) ?_))
    refine congrArg (fun B => sortedFrom B e) (funext fun k => funext fun k' => ?_)
    exact congrArg₂ (fun u v => cmp (x u, y u) (x v, y v) == 1#1) (key k) (key k')
  · refine congrArg y ((key _).trans (congrArg (ix3 i s) ?_))
    refine congrArg (fun B => sortedFrom B e) (funext fun k => funext fun k' => ?_)
    exact congrArg₂ (fun u v => cmp (x u, y u) (x v, y v) == 1#1) (key k) (key k')

theorem gt_eq (x y : EReal) : (Ideal.cmpTotal .gt x y == 1#1) = decide (y < x) := by
  show (BitVec.ofBool (decide (y < x)) == 1#1) = _
  cases decide (y < x) <;> rfl

/-- The first eight positions of the last axis. -/
theorem slice_last {α : Type} (y : S2x4096x64.Idx → α) (i : Fin 2) (s : Fin 4096) (r : Fin 8) :
    extractStridedSlice S2x4096x8 (fun _ => 0) y sliceFits_S2x4096x64_S2x4096x8 (ix3 i s r)
      = y (ix3 i s (r.castLE (by decide : 8 ≤ 64))) := by
  refine congrArg y (funext fun d => Fin.ext ?_)
  match d with
  | ⟨0, _⟩ => exact Nat.zero_add _
  | ⟨1, _⟩ => exact Nat.zero_add _
  | ⟨2, _⟩ => exact Nat.zero_add _

theorem topT (p : FVec Ideal S2x4096x64 .f32) (i : Fin 2) (s : Fin 4096) (r : Fin 8) (hp : ∀ e, 0 ≤ lane p i s e) :
    (Host.topK S2x4096x8 2 (FloatOps.cmpfTotal .gt) p sliceFits_S2x4096x64_S2x4096x8).1 (ix3 i s r)
        = pick (lane p i s) r
      ∧ (Host.topK S2x4096x8 2 (FloatOps.cmpfTotal .gt) p sliceFits_S2x4096x64_S2x4096x8).2 (ix3 i s r)
        = BitVec.ofNat 32 (sel (lane p i s) r).val := by
  have hq : sortedFrom (fun k k' => Ideal.cmpTotal .gt (p (ix3 i s k)) (p (ix3 i s k')) == 1#1)
      (r.castLE (by decide : 8 ≤ 64)) = sel (lane p i s) r := by
    rw [← sortedFrom_eq_sel (lane p i s) hp r]
    exact congrArg (fun B => sortedFrom B _) (funext fun k => funext fun k' => gt_eq _ _)
  have key := sort2_last (fun l r : EReal × BitVec 32 => Ideal.cmpTotal .gt l.1 r.1) p
    (fun j : S2x4096x64.Idx => if hd : 2 < S2x4096x64.rank then iotaInDim S2x4096x64 32 ⟨2, hd⟩ j else 0#32) i s _ _ hq
  constructor
  · refine (slice_last _ i s r).trans (key.1.trans ?_)
    exact (left_sel (lane p i s) hp r (by have := r.isLt; omega)).symm
  · refine (slice_last _ i s r).trans (key.2.trans ?_)
    rfl

end Cert.Router

end
-- ==== Proof.Window.lean ====
/-
  The reference's running count: a sum over a window as tall as the array, padded below by one row less, is the sum of
  the rows up to and including the row asked for.
-/
module

public import proofs.«01_k».proof.Proof.Spec
public import Idealize.ShloMosaic.Lib.Routing.OpsOne
public import Idealize.ShloMosaic.Lib.Pointwise.Index

@[expose] public section

noncomputable section

namespace Cert.Router

open Idealize.ShloMosaic Idealize.ShloMosaic.Routing

/-- A left fold that adds one term a step is its start plus the sum of the terms. -/
theorem foldl_add_terms {α : Type} (g : α → EReal) (h : EReal → α → EReal) (l : List α)
    (e : ∀ a ∈ l, ∀ r, h r a = r + g a) (v : EReal) : l.foldl h v = v + (l.map g).sum := by
  induction l generalizing v with
  | nil => simp
  | cons a l ih =>
    rw [List.foldl_cons, e a (by simp), ih (fun b hb => e b (by simp [hb])), List.map_cons, List.sum_cons, add_assoc]

/-- The terms a window ending at row `j` takes: the rows `0 … j`. -/
theorem sum_window_rows (H : ℕ) (f : ℕ → EReal) (j : ℕ) (hj : j ≤ H) :
    (∑ n ∈ Finset.range (H + 1), if H ≤ j + n then f (j + n - H) else 0) = ∑ k ∈ Finset.range (j + 1), f k := by
  rw [show H + 1 = (H - j) + (j + 1) by omega, Finset.sum_range_add _ (H - j)]
  rw [Finset.sum_eq_zero (s := Finset.range (H - j)) fun n hn => by
    rw [Finset.mem_range] at hn
    exact if_neg (by omega), zero_add]
  refine Finset.sum_congr rfl fun k _ => ?_
  rw [if_pos (by omega)]
  exact congrArg f (by omega)

/-- What position `n` of the window of entry `(j, c)` reads: row `j + n - H` where there is one, zero in the padding. -/
theorem window_entry {H C : ℕ} (x : (⟨2, ![H + 1, C]⟩ : Shape).Idx → EReal) (f : ℕ → Fin C → EReal)
    (hx : ∀ (i : Fin (H + 1)) (c : Fin C), x (ix2 i c) = f i.val c) (j : Fin (H + 1)) (c : Fin C) (n : ℕ) (hn : n ≤ H)
    (p : Fin 2 → ℕ) (h0 : p 0 = j.val + n) (h1 : p 1 = c.val)
    (D : Decidable (∀ a : Fin 2, (![H, 0] : Fin 2 → ℕ) a ≤ p a
        ∧ p a - (![H, 0] : Fin 2 → ℕ) a < (⟨2, ![H + 1, C]⟩ : Shape).size a)) :
    (if hin : ∀ a : Fin 2, (![H, 0] : Fin 2 → ℕ) a ≤ p a
        ∧ p a - (![H, 0] : Fin 2 → ℕ) a < (⟨2, ![H + 1, C]⟩ : Shape).size a
      then x (fun a => ⟨p a - (![H, 0] : Fin 2 → ℕ) a, (hin a).2⟩) else 0)
      = if H ≤ j.val + n then f (j.val + n - H) c else 0 := by
  have hj := j.isLt
  by_cases hle : H ≤ j.val + n
  · have hin : ∀ a : Fin 2, (![H, 0] : Fin 2 → ℕ) a ≤ p a
        ∧ p a - (![H, 0] : Fin 2 → ℕ) a < (⟨2, ![H + 1, C]⟩ : Shape).size a :=
      Fin.forall_fin_two.mpr ⟨⟨by simp only [Matrix.cons_val_zero]; omega,
        by show p 0 - H < H + 1; omega⟩, ⟨Nat.zero_le _, by show p 1 - 0 < C; rw [h1]; exact c.isLt⟩⟩
    rw [dif_pos hin, if_pos hle, ← hx ⟨j.val + n - H, by omega⟩ c]
    refine congrArg x (funext (Fin.forall_fin_two.mpr ⟨Fin.ext ?_, Fin.ext ?_⟩))
    · show p 0 - H = j.val + n - H
      rw [h0]
    · show p 1 - 0 = c.val
      rw [h1, Nat.sub_zero]
  · rw [if_neg hle, dif_neg]
    intro hin
    have := (hin 0).1
    simp only [Matrix.cons_val_zero] at this
    omega

/-- The running sum down the rows of an array. -/
theorem running_sum {H C : ℕ} (x : FVec Ideal (⟨2, ![H + 1, C]⟩ : Shape) .f32) (f : ℕ → Fin C → EReal)
    (hx : ∀ (i : Fin (H + 1)) (c : Fin C), x (ix2 i c) = f i.val c) (init : FVec Ideal (⟨0, ![]⟩ : Shape) .f32)
    (hinit : ∀ i, init i = (0 : EReal))
    (h : (⟨2, ![H + 1, C]⟩ : Shape).ReduceWindows (![H + 1, 1] : Fin 2 → Nat) ![1, 1] ![H, 0] ![0, 0] ⟨2, ![H + 1, C]⟩)
    (hu : 0 < (⟨0, ![]⟩ : Shape).numel) (j : Fin (H + 1)) (c : Fin C) :
    Host.reduceWindowAdd ![H + 1, 1] ![1, 1] ![H, 0] ![0, 0] x init h hu (ix2 j c)
      = ∑ k ∈ Finset.range (j.val + 1), f k c := by
  have hj := j.isLt
  show (List.finRange (shape2 (H + 1) 1).numel).foldl _ (init (Shape.Idx.first hu)) = _
  rw [hinit]
  refine (foldl_add_terms (fun n => if H ≤ j.val + n.val then f (j.val + n.val - H) c else 0) _ _ (fun n _ r => ?_)
    _).trans ?_
  · have hn : n.val < H + 1 := (n.cast (numel_col _)).isLt
    refine congrArg (r + ·) (window_entry x f hx j c n.val (by omega) (fun a => _) ?_ ?_ _)
    · show j.val * 1 + ((shape2 (H + 1) 1).rowMajor.symm n 0).val = j.val + n.val
      rw [symm_col, Nat.mul_one]
      rfl
    · show c.val * 1 + ((shape2 (H + 1) 1).rowMajor.symm n 1).val = c.val
      rw [symm_col, Nat.mul_one]
      rfl
  · rw [zero_add, ← List.ofFn_eq_map, List.sum_ofFn,
      Fin.sum_univ_eq_sum_range (fun n => if H ≤ j.val + n then f (j.val + n - H) c else 0), numel_col]
    exact sum_window_rows H (fun k => f k c) j.val (by omega)

end Cert.Router

end
-- ==== Proof.RefRanks.lean ====
/-
  The reference's capacity part, read at a token: the one-hot row of a rank's expert, the running count of a rank, what
  the capacity keeps, and the two results.
-/
module

public import proofs.«01_k».proof.Proof.RefProb
public import proofs.«01_k».proof.Proof.Window

@[expose] public section

set_option maxRecDepth 16384

noncomputable section

namespace Cert.Router

open Cert.ReferenceIdeal Cert.ReferenceIdeal.Gen
open Idealize.ShloMosaic Idealize.ShloMosaic.TcCoe

/-- One column of an array of eight. -/
theorem column_apply {α : Type} (y : S8192x8.Idx → α) (off : Fin 2 → ℕ) (r : Fin 8) (h0 : off 0 = 0) (h1 : off 1 = r.val)
    (h : S8192x8.Slices off S8192x1) (n : Fin 8192) : extractStridedSlice S8192x1 off y h (ix2 n 0) = y (ix2 n r) := by
  refine congrArg y (funext fun d => Fin.ext ?_)
  match d with
  | ⟨0, _⟩ =>
    show off 0 + n.val = n.val
    omega
  | ⟨1, _⟩ =>
    show off 1 + 0 = r.val
    omega

/-- The one-hot rows of a column of experts. -/
def hotT (s : IVec S8192x1 32) : FVec Ideal S8192x64 .f32 :=
  uitofp .f32 (cmpi .eq (broadcastInDim S8192x64 ![0, 1] bcast_S8192x1_S8192x64_0_1
    (broadcastInDim S8192x1 ![0] bcast_S8192_S8192x1_0 (shapeCast _ s shapeCasts_S8192x1_S8192)))
    (broadcastInDim S8192x64 ![0, 1] bcast_S1x64_S8192x64_0_1 (iotaInDim S1x64 32 1)))

theorem uitofp_bit (b : BitVec 1) : (FloatOps.uitofp .f32 b : Ideal .f32) = if b = 1#1 then (1 : EReal) else 0 := by
  have h0 : (FloatOps.uitofp .f32 (0#1) : Ideal .f32) = (0 : EReal) := by
    show (((0 : ℕ) : ℝ) : EReal) = 0
    simp
  have h1 : (FloatOps.uitofp .f32 (1#1) : Ideal .f32) = (1 : EReal) := by
    show (((1 : ℕ) : ℝ) : EReal) = 1
    simp
  rcases (by revert b; decide : b = 0#1 ∨ b = 1#1) with e | e
  · rw [e, h0]; rfl
  · rw [e, h1]; rfl

theorem cmpi_expert (q e : Fin 64) :
    IntOp.cmpi .eq (BitVec.ofNat 32 q.val) (BitVec.ofNat 32 e.val) = 1#1 ↔ q = e := by
  have hq := q.isLt
  have he := e.isLt
  rw [IntOp.cmpi_eq]
  constructor
  · intro h
    have := congrArg BitVec.toNat h
    rw [BitVec.toNat_ofNat, BitVec.toNat_ofNat] at this
    exact Fin.ext (by omega)
  · rintro rfl
    rfl

theorem hotT_apply (s : IVec S8192x1 32) (n : Fin 8192) (q e : Fin 64) (hs : s (ix2 n 0) = BitVec.ofNat 32 q.val) :
    hotT s (ix2 n e) = if q = e then 1 else 0 := by
  pointwise [hotT]
  rw [hs, uitofp_bit]
  exact if_congr (cmpi_expert q e) rfl rfl

/-- What the capacity keeps of a rank's one-hot rows. -/
def keepT (h : FVec Ideal S8192x64 .f32) : FVec Ideal S8192x64 .f32 :=
  mulf (uitofp .f32 (cmpf .olt (subf (Host.reduceWindowAdd ![8192, 1] ![1, 1] ![8191, 0] ![0, 0] h
    (broadcastInDim S_ ![] bcast_S_S_ (constant S_ .f32 0x00000000#32))
    reduceWindows_S8192x64_S8192x64_w8192s1p8191_0_w1s1p0_0 h_S_)
    (broadcastInDim S8192x64 ![] bcast_S_S8192x64 (constant S_ .f32 0x3F800000#32)))
    (broadcastInDim S8192x64 ![] bcast_S_S8192x64 (constant S_ .f32 0x44A00000#32)))) h

theorem runT (h : FVec Ideal S8192x64 .f32) (P : ℕ → Row) (r : ℕ)
    (hh : ∀ (n : Fin 8192) (e : Fin 64), h (ix2 n e) = hot P r n.val e) (n : Fin 8192) (e : Fin 64) :
    Host.reduceWindowAdd ![8192, 1] ![1, 1] ![8191, 0] ![0, 0] h
      (broadcastInDim S_ ![] bcast_S_S_ (constant S_ .f32 0x00000000#32))
      reduceWindows_S8192x64_S8192x64_w8192s1p8191_0_w1s1p0_0 h_S_ (ix2 n e) = count P r (n.val + 1) e :=
  running_sum (H := 8191) h (fun k c => hot P r k c) hh _
    (fun i => by show Ideal.ofBits .f32 0#32 = 0; simp [Ideal.ofBits, Ideal.ieee]) _ _ n e

theorem keepT_apply (h : FVec Ideal S8192x64 .f32) (P : ℕ → Row) (r : ℕ)
    (hh : ∀ (n : Fin 8192) (e : Fin 64), h (ix2 n e) = hot P r n.val e) (n : Fin 8192) (e : Fin 64) :
    keepT h (ix2 n e) = keep P r n.val e := by
  have h1 := runT h P r hh n e
  pointwise [keepT]
  rw [h1, uitofp_bit, hh, show Ideal.ofBits .f32 1151336448#32 = cap from rfl]
  unfold keep hot
  by_cases hl : count P r (n.val + 1) e - 1 < cap <;> by_cases hs : sel (P n.val) r = e <;> simp [hl, hs]

/-- What the capacity keeps of one column of an array of eight experts. -/
def oneT (y : IVec S8192x8 32) (off : Fin 2 → ℕ) (h : S8192x8.Slices off S8192x1) : FVec Ideal S8192x64 .f32 :=
  keepT (hotT (extractStridedSlice S8192x1 off y h))

theorem oneT_apply (y : IVec S8192x8 32) (P : ℕ → Row)
    (hy : ∀ (n : Fin 8192) (r : Fin 8), y (ix2 n r) = BitVec.ofNat 32 (sel (P n.val) r).val) (off : Fin 2 → ℕ) (r : Fin 8)
    (h0 : off 0 = 0) (h1 : off 1 = r.val) (h : S8192x8.Slices off S8192x1) (n : Fin 8192) (e : Fin 64) :
    oneT y off h (ix2 n e) = keep P r n.val e :=
  keepT_apply _ P r (fun n e => hotT_apply _ n (sel (P n.val) r) e ((column_apply y off r h0 h1 h n).trans (hy n r))) n e

/-- One rank's part of the shares: what is kept, times the rank's weight. -/
def partT (y : IVec S8192x8 32) (w : FVec Ideal S8192x8 .f32) (off : Fin 2 → ℕ) (h : S8192x8.Slices off S8192x1) :
    FVec Ideal S8192x64 .f32 :=
  mulf (oneT y off h)
    (broadcastInDim S8192x64 ![0, 1] bcast_S8192x1_S8192x64_0_1 (extractStridedSlice S8192x1 off w h))

theorem partT_apply (y : IVec S8192x8 32) (w : FVec Ideal S8192x8 .f32) (P : ℕ → Row)
    (hy : ∀ (n : Fin 8192) (r : Fin 8), y (ix2 n r) = BitVec.ofNat 32 (sel (P n.val) r).val)
    (hw : ∀ (n : Fin 8192) (r : Fin 8), w (ix2 n r) = Ideal.div (pick (P n.val) r) (den (P n.val)))
    (off : Fin 2 → ℕ) (r : Fin 8) (h0 : off 0 = 0) (h1 : off 1 = r.val) (h : S8192x8.Slices off S8192x1) (n : Fin 8192)
    (e : Fin 64) :
    partT y w off h (ix2 n e) = keep P r n.val e * Ideal.div (pick (P n.val) r) (den (P n.val)) := by
  have a := oneT_apply y P hy off r h0 h1 h n e
  have b := (column_apply w off r h0 h1 h n).trans (hw n r)
  generalize hz : extractStridedSlice S8192x1 off w h = z at b
  have u : partT y w off h = mulf (oneT y off h) (broadcastInDim S8192x64 ![0, 1] bcast_S8192x1_S8192x64_0_1 z) := by
    rw [← hz]; rfl
  rw [u]
  pointwise
  rw [a, b]

/-- The sum over the eight ranks, as the reference takes it. -/
def sumT (k : Fin 8 → FVec Ideal S8192x64 .f32) : FVec Ideal S8192x64 .f32 :=
  addf (addf (addf (addf (addf (addf (addf (addf (broadcastInDim S8192x64 ![] bcast_S_S8192x64
    (constant S_ .f32 0x00000000#32)) (k 0)) (k 1)) (k 2)) (k 3)) (k 4)) (k 5)) (k 6)) (k 7)

theorem sumT_apply (k : Fin 8 → FVec Ideal S8192x64 .f32) (f : ℕ → EReal) (n : Fin 8192) (e : Fin 64)
    (hk : ∀ r : Fin 8, k r (ix2 n e) = f r.val) : sumT k (ix2 n e) = ∑ r ∈ Finset.range 8, f r := by
  pointwise [sumT]
  simp only [hk, Finset.sum_range_succ, Finset.sum_range_zero, zero_add]
  rfl

/-- The columns' offsets fit. -/
theorem column_fits (r : Fin 8) : S8192x8.Slices ![0, r.val] S8192x1 := by
  revert r
  decide

/-- The reference's assignments. -/
def dispT (y : IVec S8192x8 32) : FVec Ideal S8192x64 .f32 := sumT fun r => oneT y ![0, r.val] (column_fits r)

/-- The reference's shares before they are masked. -/
def shareT (y : IVec S8192x8 32) (w : FVec Ideal S8192x8 .f32) : FVec Ideal S8192x64 .f32 :=
  sumT fun r => partT y w ![0, r.val] (column_fits r)

/-- The reference's masked shares. -/
def maskT (y : IVec S8192x8 32) (w : FVec Ideal S8192x8 .f32) : FVec Ideal S8192x64 .f32 :=
  mulf (shareT y w) (uitofp .f32 (cmpf .ogt (dispT y) (broadcastInDim S8192x64 ![] bcast_S_S8192x64
    (constant S_ .f32 0x00000000#32))))

/-- The reference's combination weights. -/
def combT (s : FVec Ideal S8192x64 .f32) : FVec Ideal S8192x64 .f32 :=
  Host.divf s (broadcastInDim S8192x64 ![0, 1] bcast_S8192x1_S8192x64_0_1
    (maximumf (broadcastInDim S8192x1 ![0] bcast_S8192_S8192x1_0
      (Host.reduceAdd s (constant S_ .f32 0x00000000#32) reducesTo_S8192x64_S8192_d1 h_S_))
      (broadcastInDim S8192x1 ![] bcast_S_S8192x1 (constant S_ .f32 0x358637BD#32))))

section

variable (y : IVec S8192x8 32) (w : FVec Ideal S8192x8 .f32) (P : ℕ → Row)
  (hy : ∀ (n : Fin 8192) (r : Fin 8), y (ix2 n r) = BitVec.ofNat 32 (sel (P n.val) r).val)
  (hw : ∀ (n : Fin 8192) (r : Fin 8), w (ix2 n r) = Ideal.div (pick (P n.val) r) (den (P n.val)))

include hy

theorem dispT_apply (n : Fin 8192) (e : Fin 64) : dispT y (ix2 n e) = disp P n.val e :=
  sumT_apply _ (fun r => keep P r n.val e) n e fun r => oneT_apply y P hy _ r rfl rfl _ n e

include hw

theorem shareT_apply (n : Fin 8192) (e : Fin 64) : shareT y w (ix2 n e) = share P n.val e :=
  sumT_apply _ (fun r => keep P r n.val e * Ideal.div (pick (P n.val) r) (den (P n.val))) n e
    fun r => partT_apply y w P hy hw _ r rfl rfl _ n e

theorem maskT_apply (n : Fin 8192) (e : Fin 64) : maskT y w (ix2 n e) = masked P n.val e := by
  have a := dispT_apply y P hy n e
  have b := shareT_apply y w P hy hw n e
  pointwise [maskT]
  rw [a, b, uitofp_bit]
  unfold masked
  by_cases h : 0 < disp P n.val e <;> simp [h]

theorem combT_apply (n : Fin 8192) (e : Fin 64) : combT (maskT y w) (ix2 n e) = comb P n.val e := by
  have a := maskT_apply y w P hy hw n
  generalize maskT y w = s at a
  pointwise [combT]
  simp only [a]
  rfl

end

end Cert.Router

end
-- ==== Proof.RefRun.lean ====
/-
  The reference's two results: where the rows of probabilities are nonnegative, they are the specification's.
-/
module

public import proofs.«01_k».proof.Proof.RefRanks
public import proofs.«01_k».proof.Proof.KernelRun

@[expose] public section

set_option maxRecDepth 16384

noncomputable section

namespace Cert.Router

open Cert.ReferenceIdeal Cert.ReferenceIdeal.Gen Cert.ReferenceIdeal.Value
open Idealize.ShloMosaic Idealize.ShloMosaic.TcCoe Idealize.SL.Sem

/-! ## Experts and weights -/

/-- The experts the reference chooses, a token a row. -/
def expertsT (p : FVec Ideal S2x4096x64 .f32) : IVec S8192x8 32 :=
  shapeCast _ ((Host.topK S2x4096x8 2 (FloatOps.cmpfTotal .gt) p sliceFits_S2x4096x64_S2x4096x8).2)
    shapeCasts_S2x4096x8_S8192x8

/-- The chosen probabilities divided by their sums. -/
def weighT (v : FVec Ideal S2x4096x8 .f32) : FVec Ideal S8192x8 .f32 :=
  shapeCast _ (Host.divf v (broadcastInDim S2x4096x8 ![0, 1, 2] bcast_S2x4096x1_S2x4096x8_0_1_2
    (maximumf (broadcastInDim S2x4096x1 ![0, 1] bcast_S2x4096_S2x4096x1_0_1
      (Host.reduceAdd v (constant S_ .f32 0x00000000#32) reducesTo_S2x4096x8_S2x4096_d2 h_S_))
      (broadcastInDim S2x4096x1 ![] bcast_S_S2x4096x1 (constant S_ .f32 0x358637BD#32)))))
    shapeCasts_S2x4096x8_S8192x8

/-- The weights the reference gives the chosen experts, a token a row. -/
def weightsT (p : FVec Ideal S2x4096x64 .f32) : FVec Ideal S8192x8 .f32 :=
  weighT (Host.topK S2x4096x8 2 (FloatOps.cmpfTotal .gt) p sliceFits_S2x4096x64_S2x4096x8).1

section

variable (p : FVec Ideal S2x4096x64 .f32) (P : ℕ → Row)
  (hp : ∀ (i : Fin 2) (s : Fin 4096), lane p i s = P (i.val * 4096 + s.val)) (h0 : ∀ n e, 0 ≤ P n e)

/-- A token's sequence and its place there. -/
theorem token_split (n : Fin 8192) : ∃ (i : Fin 2) (s : Fin 4096), n.val = i.val * 4096 + s.val :=
  ⟨⟨n.val / 4096, by omega⟩, ⟨n.val % 4096, by omega⟩, by show n.val = n.val / 4096 * 4096 + n.val % 4096; omega⟩

theorem flatten_apply {α : Type} (v : S2x4096x8.Idx → α) (n : Fin 8192) (i : Fin 2) (s : Fin 4096)
    (hn : n.val = i.val * 4096 + s.val) (r : Fin 8) :
    shapeCast S8192x8 v shapeCasts_S2x4096x8_S8192x8 (ix2 n r) = v (ix3 i s r) := by
  pointwise
  exact congrArg₂ (fun a b => v (ix3 a b r)) (Fin.ext (by show n.val / 4096 = i.val; omega))
    (Fin.ext (by show n.val % 4096 = s.val; omega))

include hp h0

theorem expertsT_apply (n : Fin 8192) (r : Fin 8) :
    expertsT p (ix2 n r) = BitVec.ofNat 32 (sel (P n.val) r).val := by
  obtain ⟨i, s, hn⟩ := token_split n
  refine (flatten_apply _ n i s hn r).trans ?_
  rw [(topT p i s r fun e => by rw [hp]; exact h0 _ e).2, hp, hn]

theorem weightsT_apply (n : Fin 8192) (r : Fin 8) :
    weightsT p (ix2 n r) = Ideal.div (pick (P n.val) r) (den (P n.val)) := by
  obtain ⟨i, s, hn⟩ := token_split n
  have key := fun r => (topT p i s r fun e => by rw [hp]; exact h0 _ e).1
  rw [hp, ← hn] at key
  unfold weightsT weighT
  generalize (Host.topK S2x4096x8 2 (FloatOps.cmpfTotal .gt) p sliceFits_S2x4096x64_S2x4096x8).1 = v at key
  refine (flatten_apply _ n i s hn r).trans ?_
  pointwise
  simp only [key]
  rw [Fin.sum_univ_eq_sum_range (fun r => pick (P n.val) r) 8]
  rfl

end

/-! ## The results -/

section

variable (V0 : Valuation τ sig (Elt Ideal))

/-- The arguments. -/
abbrev inX : FVec Ideal S2x4096x4096 .f32 := V0 (Proc.devRef .tc main_arg0)
abbrev inW : FVec Ideal S64x4096 .f32 := V0 (Proc.devRef .tc main_arg1)
abbrev inB : FVec Ideal S64 .f32 := V0 (Proc.devRef .tc main_arg2)

/-- The probabilities. -/
abbrev pT : FVec Ideal S2x4096x64 .f32 := probT (scoreT (inX V0) (inW V0) (inB V0))

theorem lane_pT (i : Fin 2) (s : Fin 4096) :
    lane (pT V0) i s = prob (inX V0) (inW V0) (inB V0) (i.val * 4096 + s.val) := by
  funext e
  refine (probT_apply _ i s e).trans ?_
  unfold prob
  rw [show lane (scoreT (inX V0) (inW V0) (inB V0)) i s = _ from funext fun e => scoreT_apply _ _ _ i s e]

theorem v14_eq : res_main_v14 V0 = pT V0 := rfl
theorem v21_eq : res_main_v21 V0 = expertsT (pT V0) := rfl
theorem v22_eq : res_main_v22 V0 = weightsT (pT V0) := rfl
theorem v144_eq : res_main_v144 V0 = dispT (expertsT (pT V0)) := rfl
theorem v148_eq : res_main_v148 V0 = maskT (expertsT (pT V0)) (weightsT (pT V0)) := rfl

/-- The rows of probabilities of the arguments. -/
abbrev rowsT : ℕ → Row := prob (inX V0) (inW V0) (inB V0)

variable (h0 : ∀ n e, 0 ≤ rowsT V0 n e)

include h0

theorem v144_flat : res_main_v144 V0 = flat (disp (rowsT V0)) := by
  rw [v144_eq]
  funext y
  rw [eq_ix2 (n0 := 8192) (n1 := 64) y]
  exact dispT_apply _ _ (expertsT_apply _ _ (lane_pT V0) h0) _ _

theorem comb_flat : combT (res_main_v148 V0) = flat (comb (rowsT V0)) := by
  rw [v148_eq]
  funext y
  rw [eq_ix2 (n0 := 8192) (n1 := 64) y]
  exact combT_apply _ _ _ (expertsT_apply _ _ (lane_pT V0) h0) (weightsT_apply _ _ (lane_pT V0) h0) _ _

end

/-- The reference's run: both results, the arguments unchanged. -/
theorem reference_run (m : (ℓ : Loc nD τ sig) → Buf (Elt Ideal) ℓ) (ρ : Dev nD → PrngReg)
    (h0 : ∀ c n e, 0 ≤ rowsT (StableHlo.launchContents m c) n e) :
    θ_run defs (onTc (τ := τ) (main (F := Ideal))) ⟨m, fun _ => 0, ρ⟩ (fun r => ∀ c : Dev nD,
      r.2.mem ((c.tc : Thread nD τ).loc main_v155) = stacked (disp (rowsT (StableHlo.launchContents m c)))
      ∧ r.2.mem ((c.tc : Thread nD τ).loc main_v156) = stacked (comb (rowsT (StableHlo.launchContents m c)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c).1.trans
      ((congrArg (fun z : FVec Ideal S8192x64 .f32 => shapeCast S2x4096x64 z shapeCasts_S8192x64_S2x4096x64)
        (v144_flat _ (h0 c))).trans (shapeCast_flat _)),
    (h c).2.1.trans
      ((congrArg (fun z : FVec Ideal S8192x64 .f32 => shapeCast S2x4096x64 z shapeCasts_S8192x64_S2x4096x64)
        (comb_flat _ (h0 c))).trans (shapeCast_flat _)),
    (h c).2.2⟩) (Value.run m ρ)

end Cert.Router

end
-- ==== Proof.Finite.lean ====
/-
  What the precondition gives: finite arguments have real scores, and a row of real scores has nonnegative
  probabilities.
-/
module

public import proofs.«01_k».proof.Pre_finite_args
public import proofs.«01_k».proof.Proof.Scores
public import Idealize.ShloMosaic.Lib.ReduceAll

@[expose] public section

set_option maxRecDepth 16384

noncomputable section

namespace Cert.Router

open Idealize.ShloMosaic

/-- The shape relations of the precondition. -/
theorem preFacts : Cert.Pre_finite_args.Facts where
  bcast_S_S2x4096x4096 := by decide
  reducesTo_S2x4096x4096_S_d0_1_2 := by decide
  h_S_ := by decide
  bcast_S_S64x4096 := by decide
  reducesTo_S64x4096_S_d0_1 := by decide
  bcast_S_S64 := by decide
  reducesTo_S64_S_d0 := by decide

/-! ## Real numbers among the extended reals -/

/-- An extended real that is a real number. -/
def IsReal (v : EReal) : Prop := ∃ r : ℝ, v = (r : EReal)

theorem IsReal.add {a b : EReal} (ha : IsReal a) (hb : IsReal b) : IsReal (a + b) := by
  obtain ⟨r, rfl⟩ := ha
  obtain ⟨s, rfl⟩ := hb
  exact ⟨r + s, (EReal.coe_add r s).symm⟩

theorem IsReal.mul {a b : EReal} (ha : IsReal a) (hb : IsReal b) : IsReal (a * b) := by
  obtain ⟨r, rfl⟩ := ha
  obtain ⟨s, rfl⟩ := hb
  exact ⟨r * s, (EReal.coe_mul r s).symm⟩

theorem IsReal.sum {ι : Type} (f : ι → EReal) (s : Finset ι) (h : ∀ i, IsReal (f i)) : IsReal (∑ i ∈ s, f i) := by
  classical
  induction s using Finset.induction_on with
  | empty => exact ⟨0, by simp⟩
  | insert a s ha ih => rw [Finset.sum_insert ha]; exact (h a).add ih

/-- A number whose absolute value is below infinity is real. -/
theorem isReal_of_abs_lt (v : EReal) (h : max v (-v) < ⊤) : IsReal v := by
  induction v using EReal.rec with
  | bot => simp at h
  | coe r => exact ⟨r, rfl⟩
  | top => simp at h

/-! ## The scores -/

theorem isReal_score (x : FVec Ideal SX .f32) (w : FVec Ideal SW .f32) (b : FVec Ideal SB .f32) (hx : ∀ i, IsReal (x i))
    (hw : ∀ i, IsReal (w i)) (hb : ∀ i, IsReal (b i)) (n : ℕ) (e : Fin 64) : IsReal (score x w b n e) :=
  (IsReal.sum _ _ fun _ => (hx _).mul (hw _)).add (hb _)

theorem exp_nonneg (v : EReal) : 0 ≤ Ideal.exp v := by
  induction v using EReal.rec with
  | bot => exact le_of_eq rfl
  | coe r => exact EReal.coe_nonneg.mpr (Real.exp_pos r).le
  | top => exact le_top

theorem div_nonneg_of (a b : EReal) (ha : 0 ≤ a) (hb : 0 < b) : 0 ≤ Ideal.div a b := by
  unfold Ideal.div
  rw [if_neg hb.ne']
  exact mul_nonneg ha (EReal.inv_nonneg_of_nonneg hb.le)

/-- Real scores have nonnegative probabilities. -/
theorem soft_nonneg (l : Row) (h : ∀ e, IsReal (l e)) (e : Fin 64) : 0 ≤ soft l e := by
  refine div_nonneg_of _ _ (exp_nonneg _) ?_
  refine lt_of_lt_of_le ?_ (Finset.single_le_sum (f := fun k => Ideal.exp (l k - peak l)) (fun k _ => exp_nonneg _)
    (Finset.mem_univ (best l)))
  rw [peak_eq]
  obtain ⟨r, hr⟩ := h (best l)
  show 0 < Ideal.exp (l (best l) - l (best l))
  rw [hr, ← EReal.coe_sub]
  exact EReal.coe_pos.mpr (Real.exp_pos _)

theorem prob_nonneg (x : FVec Ideal SX .f32) (w : FVec Ideal SW .f32) (b : FVec Ideal SB .f32) (hx : ∀ i, IsReal (x i))
    (hw : ∀ i, IsReal (w i)) (hb : ∀ i, IsReal (b i)) (n : ℕ) (e : Fin 64) : 0 ≤ prob x w b n e :=
  soft_nonneg _ (isReal_score x w b hx hw hb n) e

/-! ## The precondition -/

theorem ofBits_inf : Ideal.ofBits .f32 0x7F800000#32 = ⊤ := by
  simp [Ideal.ofBits, Ideal.ieee]

theorem isReal_of_cmp (v : EReal) (h : Ideal.cmp .olt (max v (-v)) (Ideal.ofBits .f32 0x7F800000#32) = 1#1) :
    IsReal v := by
  refine isReal_of_abs_lt v ?_
  rw [ofBits_inf] at h
  by_contra hn
  rw [show Ideal.cmp .olt (max v (-v)) ⊤ = BitVec.ofBool (decide (max v (-v) < ⊤)) from rfl, decide_eq_false hn] at h
  exact absurd h (by decide)

instance : Subsingleton Cert.Pre_finite_args.S_.Idx := ⟨fun a b => funext fun d => d.elim0⟩

theorem finite_args (x : FVec Ideal SX .f32) (w : FVec Ideal SW .f32) (b : FVec Ideal SB .f32)
    (h : @Cert.Pre_finite_args.fn preFacts Ideal _ x w b = fun _ => 1#1) :
    (∀ i, IsReal (x i)) ∧ (∀ i, IsReal (w i)) ∧ ∀ i, IsReal (b i) := by
  have h1 := congrFun h (fun d => d.elim0)
  obtain ⟨h2, hb⟩ := IntOp.andi_eq_one.mp h1
  obtain ⟨hx, hw⟩ := IntOp.andi_eq_one.mp h2
  exact ⟨fun i => isReal_of_cmp _ (Host.reduce_andi_all _ _ _ _ _ hx i),
    fun i => isReal_of_cmp _ (Host.reduce_andi_all _ _ _ _ _ hw i),
    fun i => isReal_of_cmp _ (Host.reduce_andi_all _ _ _ _ _ hb i)⟩

end Cert.Router

end
-- ==== Proof.lean ====
/-
  The claims. The frames of the kernel, of its idealization and of the reference; and the two results of the kernel
  at the extended reals are those of the reference where the arguments are finite: both are the specification's
  (Proof/Spec.lean) of the arguments' rows of probabilities.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.KernelRun
public import proofs.«01_k».proof.Proof.RefRun
public import proofs.«01_k».proof.Proof.Finite

@[expose] public section

noncomputable section

namespace Cert.Proof

open Idealize.ShloMosaic Idealize.SL.Sem Cert.Router

/-- The reference's run: the arguments unchanged, and no semaphore to leave raised. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2))
        ∧ r.2.sem = fun _ => 0) :=
  (θ_run _ _ _).mono (fun r h => ⟨fun c => (h c).2.2, sem_eq_zero_of_no_sems (by decide) r.2⟩)
    (Cert.ReferenceIdeal.Value.run m g)

/-- The kernel's results are the reference's. -/
theorem results : Cert.algebraic_KernelIdeal_ReferenceIdeal_pre_finite_args
    (hKernelIdeal := Cert.KernelIdeal.Gen.facts) (hReferenceIdeal := Cert.ReferenceIdeal.Gen.facts)
    (hPre_finite_args := preFacts) := by
  intro m g m' g' hpre hargs
  have e : ∀ c, rowsT (StableHlo.launchContents m' c) = rows m c := fun c => by
    obtain ⟨hx, hw, hb⟩ := hargs c
    have e0 : inX (StableHlo.launchContents m' c) = argX m c := hx
    have e1 : inW (StableHlo.launchContents m' c) = argW m c := hw
    have e2 : inB (StableHlo.launchContents m' c) = argB m c := hb
    unfold rowsT rows
    rw [e0, e1, e2]
  have h0 : ∀ c n k, 0 ≤ rowsT (StableHlo.launchContents m' c) n k := fun c n k => by
    obtain ⟨hx, hw, hb⟩ := finite_args (argX m c) (argW m c) (argB m c) (hpre c)
    rw [e]
    exact prob_nonneg _ _ _ hx hw hb n k
  refine ⟨fun c => stacked (disp (rows m c)), fun c => stacked (comb (rows m c)), kernel_run m g, ?_⟩
  refine (θ_run _ _ _).mono (fun _ h c => ?_) (reference_run m' g' h0)
  have hc := h c
  rw [e] at hc
  exact hc

theorem claim : Cert.Claim :=
  ⟨Cert.Kernel.Gen.facts, Cert.KernelIdeal.Gen.facts, Cert.ReferenceIdeal.Gen.facts, preFacts,
    fun m g _ => Cert.Kernel.Gen.frame m g, fun m g _ => Cert.KernelIdeal.Gen.frame m g,
    fun m g _ => Cert.KernelIdeal.Gen.frame m g, fun m g _ => reference_frame m g, fun m g _ => reference_frame m g,
    trivial, results⟩

end Cert.Proof

end
